-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_name_domains [hPre_ids_name_domains : Cert.Pre_ids_name_domains.Facts] (m : (ℓ : Loc Cert.KernelIdeal.nD Cert.KernelIdeal.τ Cert.KernelIdeal.sig) → Buf (Elt Ideal) ℓ) : Prop :=
  ∀ c : Dev Cert.KernelIdeal.nD,
    (Cert.Pre_ids_name_domains.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_name_domains [hPre_ids_name_domains : Cert.Pre_ids_name_domains.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_name_domains.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_KernelIdeal_pre_ids_name_domains [hKernelIdeal : Cert.KernelIdeal.Facts] [hPre_ids_name_domains : Cert.Pre_ids_name_domains.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_name_domains m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def quiescent_ReferenceIdeal_pre_ids_name_domains [hReferenceIdeal : Cert.ReferenceIdeal.Facts] [hPre_ids_name_domains : Cert.Pre_ids_name_domains.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_name_domains m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def preserves_Kernel_KernelIdeal : Prop :=
  True

def algebraic_KernelIdeal_ReferenceIdeal_pre_ids_name_domains [hKernelIdeal : Cert.KernelIdeal.Facts] [hReferenceIdeal : Cert.ReferenceIdeal.Facts] [hPre_ids_name_domains : Cert.Pre_ids_name_domains.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_name_domains m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_ids_name_domains : Cert.Pre_ids_name_domains.Facts),
    quiescent_Kernel (hKernel := hKernel)
    ∧ quiescent_KernelIdeal (hKernelIdeal := hKernelIdeal)
    ∧ quiescent_KernelIdeal_pre_ids_name_domains (hKernelIdeal := hKernelIdeal) (hPre_ids_name_domains := hPre_ids_name_domains)
    ∧ quiescent_ReferenceIdeal (hReferenceIdeal := hReferenceIdeal)
    ∧ quiescent_ReferenceIdeal_pre_ids_name_domains (hReferenceIdeal := hReferenceIdeal) (hPre_ids_name_domains := hPre_ids_name_domains)
    ∧ preserves_Kernel_KernelIdeal
    ∧ algebraic_KernelIdeal_ReferenceIdeal_pre_ids_name_domains (hKernelIdeal := hKernelIdeal) (hReferenceIdeal := hReferenceIdeal) (hPre_ids_name_domains := hPre_ids_name_domains)
-- ==== Pre_ids_name_domains.lean ====
abbrev S16384x1024 : Shape := ⟨2, ![16384, 1024]⟩
abbrev S16384 : Shape := ⟨1, ![16384]⟩
abbrev S4x1024 : Shape := ⟨2, ![4, 1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S4x1024x512 : Shape := ⟨3, ![4, 1024, 512]⟩
abbrev S4x512 : Shape := ⟨2, ![4, 512]⟩
abbrev S4x512x256 : Shape := ⟨3, ![4, 512, 256]⟩
abbrev S4x256 : Shape := ⟨2, ![4, 256]⟩
abbrev S4x256x128 : Shape := ⟨3, ![4, 256, 128]⟩
abbrev S4x128 : Shape := ⟨2, ![4, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S4x16 : Shape := ⟨2, ![4, 16]⟩
abbrev S16x32 : Shape := ⟨2, ![16, 32]⟩
abbrev S32 : Shape := ⟨1, ![32]⟩
abbrev S32x1 : Shape := ⟨2, ![32, 1]⟩
abbrev S_ : Shape := ⟨0, ![]⟩

class Facts : Prop where
  bcast_S_S16384 : S_.BroadcastsInDim S16384 (![] : Fin 0 → Fin S16384.rank)

variable [Facts]

def fn {F : FTy → Type} [FloatOps F] (main_arg0 : FVec F S16384x1024 .f32) (main_arg1 : IVec S16384 32) (main_arg2 : FVec F S4x1024 .f32) (main_arg3 : FVec F S4x1024 .f32) (main_arg4 : FVec F S1024x512 .f32) (main_arg5 : FVec F S512 .f32) (main_arg6 : FVec F S512x256 .f32) (main_arg7 : FVec F S256 .f32) (main_arg8 : FVec F S256x128 .f32) (main_arg9 : FVec F S128 .f32) (main_arg10 : FVec F S4x1024x512 .f32) (main_arg11 : FVec F S4x512 .f32) (main_arg12 : FVec F S4x512x256 .f32) (main_arg13 : FVec F S4x256 .f32) (main_arg14 : FVec F S4x256x128 .f32) (main_arg15 : FVec F S4x128 .f32) (main_arg16 : FVec F S128x64 .f32) (main_arg17 : FVec F S64 .f32) (main_arg18 : FVec F S64x1 .f32) (main_arg19 : FVec F S1 .f32) (main_arg20 : FVec F S4x16 .f32) (main_arg21 : FVec F S16x32 .f32) (main_arg22 : FVec F S32 .f32) (main_arg23 : FVec F S32x1 .f32) (main_arg24 : FVec F S1 .f32) : IVec S16384 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 4#32
  let main_v2 : IVec S16384 32 := broadcastInDim S16384 ![] bcast_S_S16384 main_c_0
  let main_v3 : IVec S16384 1 := cmpi .slt main_arg1 main_v2
  let main_v4 : IVec S16384 1 := andi main_v1 main_v3
  main_v4
-- ==== Kernel.lean ====
abbrev S16384x1024 : Shape := ⟨2, ![16384, 1024]⟩
abbrev S16384 : Shape := ⟨1, ![16384]⟩
abbrev S4x1024 : Shape := ⟨2, ![4, 1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S4x1024x512 : Shape := ⟨3, ![4, 1024, 512]⟩
abbrev S4x512 : Shape := ⟨2, ![4, 512]⟩
abbrev S4x512x256 : Shape := ⟨3, ![4, 512, 256]⟩
abbrev S4x256 : Shape := ⟨2, ![4, 256]⟩
abbrev S4x256x128 : Shape := ⟨3, ![4, 256, 128]⟩
abbrev S4x128 : Shape := ⟨2, ![4, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S4x16 : Shape := ⟨2, ![4, 16]⟩
abbrev S16x32 : Shape := ⟨2, ![16, 32]⟩
abbrev S32 : Shape := ⟨1, ![32]⟩
abbrev S32x1 : Shape := ⟨2, ![32, 1]⟩
abbrev S16384x1 : Shape := ⟨2, ![16384, 1]⟩
abbrev S16384x8 : Shape := ⟨2, ![16384, 8]⟩
abbrev S4x2048 : Shape := ⟨2, ![4, 2048]⟩
abbrev S_ : Shape := ⟨0, ![]⟩
abbrev S8x2048 : Shape := ⟨2, ![8, 2048]⟩
abbrev S8x16 : Shape := ⟨2, ![8, 16]⟩
abbrev S1x1024x512 : Shape := ⟨3, ![1, 1024, 512]⟩
abbrev S1024x2560 : Shape := ⟨2, ![1024, 2560]⟩
abbrev S1x512 : Shape := ⟨2, ![1, 512]⟩
abbrev S2560 : Shape := ⟨1, ![2560]⟩
abbrev S1x2560 : Shape := ⟨2, ![1, 2560]⟩
abbrev S1x256x128 : Shape := ⟨3, ![1, 256, 128]⟩
abbrev S1024x128 : Shape := ⟨2, ![1024, 128]⟩
abbrev S8x128 : Shape := ⟨2, ![8, 128]⟩
abbrev S1x256 : Shape := ⟨2, ![1, 256]⟩
abbrev S1x128 : Shape := ⟨2, ![1, 128]⟩
abbrev S1x64 : Shape := ⟨2, ![1, 64]⟩
abbrev S1x1 : Shape := ⟨2, ![1, 1]⟩
abbrev S1x32 : Shape := ⟨2, ![1, 32]⟩
abbrev S2048x8 : Shape := ⟨2, ![2048, 8]⟩
abbrev S2048x1024 : Shape := ⟨2, ![2048, 1024]⟩
abbrev S2048x1 : Shape := ⟨2, ![2048, 1]⟩
abbrev S2048 : Shape := ⟨1, ![2048]⟩
abbrev S2048x2048 : Shape := ⟨2, ![2048, 2048]⟩
abbrev S2048x2560 : Shape := ⟨2, ![2048, 2560]⟩
abbrev S2048x512 : Shape := ⟨2, ![2048, 512]⟩
abbrev S2048x256 : Shape := ⟨2, ![2048, 256]⟩
abbrev S2048x128 : Shape := ⟨2, ![2048, 128]⟩
abbrev S1x512x256 : Shape := ⟨3, ![1, 512, 256]⟩
abbrev S2048x64 : Shape := ⟨2, ![2048, 64]⟩
abbrev S8x32 : Shape := ⟨2, ![8, 32]⟩
abbrev S8x1 : Shape := ⟨2, ![8, 1]⟩

abbrev nBuf : Space → Nat
  | .hbm => 84
  | .vmem => 26
  | .smem => 0
  | _ => 0

abbrev bufTy : (tb : Table) → Fin (tcTables nBuf tb) → BufTy
  | .hbm, ⟨0, _⟩ => ⟨S16384x1024, .f32⟩
  | .hbm, ⟨1, _⟩ => ⟨S16384, .i32⟩
  | .hbm, ⟨2, _⟩ => ⟨S4x1024, .f32⟩
  | .hbm, ⟨3, _⟩ => ⟨S4x1024, .f32⟩
  | .hbm, ⟨4, _⟩ => ⟨S1024x512, .f32⟩
  | .hbm, ⟨5, _⟩ => ⟨S512, .f32⟩
  | .hbm, ⟨6, _⟩ => ⟨S512x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S4x1024x512, .f32⟩
  | .hbm, ⟨11, _⟩ => ⟨S4x512, .f32⟩
  | .hbm, ⟨12, _⟩ => ⟨S4x512x256, .f32⟩
  | .hbm, ⟨13, _⟩ => ⟨S4x256, .f32⟩
  | .hbm, ⟨14, _⟩ => ⟨S4x256x128, .f32⟩
  | .hbm, ⟨15, _⟩ => ⟨S4x128, .f32⟩
  | .hbm, ⟨16, _⟩ => ⟨S128x64, .f32⟩
  | .hbm, ⟨17, _⟩ => ⟨S64, .f32⟩
  | .hbm, ⟨18, _⟩ => ⟨S64x1, .f32⟩
  | .hbm, ⟨19, _⟩ => ⟨S1, .f32⟩
  | .hbm, ⟨20, _⟩ => ⟨S4x16, .f32⟩
  | .hbm, ⟨21, _⟩ => ⟨S16x32, .f32⟩
  | .hbm, ⟨22, _⟩ => ⟨S32, .f32⟩
  | .hbm, ⟨23, _⟩ => ⟨S32x1, .f32⟩
  | .hbm, ⟨24, _⟩ => ⟨S1, .f32⟩
  | .hbm, ⟨25, _⟩ => ⟨S16384x1, .i32⟩
  | .hbm, ⟨26, _⟩ => ⟨S16384x8, .i32⟩
  | .hbm, ⟨27, _⟩ => ⟨S4x2048, .f32⟩
  | .hbm, ⟨28, _⟩ => ⟨S_, .i32⟩
  | .hbm, ⟨29, _⟩ => ⟨S_, .f32⟩
  | .hbm, ⟨30, _⟩ => ⟨S8x2048, .f32⟩
  | .hbm, ⟨31, _⟩ => ⟨S8x2048, .bf16⟩
  | .hbm, ⟨32, _⟩ => ⟨S_, .i32⟩
  | .hbm, ⟨33, _⟩ => ⟨S_, .f32⟩
  | .hbm, ⟨34, _⟩ => ⟨S8x16, .f32⟩
  | .hbm, ⟨35, _⟩ => ⟨S8x16, .bf16⟩
  | .hbm, ⟨36, _⟩ => ⟨S1x1024x512, .f32⟩
  | .hbm, ⟨37, _⟩ => ⟨S1024x512, .f32⟩
  | .hbm, ⟨38, _⟩ => ⟨S1x1024x512, .f32⟩
  | .hbm, ⟨39, _⟩ => ⟨S1024x512, .f32⟩
  | .hbm, ⟨40, _⟩ => ⟨S1x1024x512, .f32⟩
  | .hbm, ⟨41, _⟩ => ⟨S1024x512, .f32⟩
  | .hbm, ⟨42, _⟩ => ⟨S1x1024x512, .f32⟩
  | .hbm, ⟨43, _⟩ => ⟨S1024x512, .f32⟩
  | .hbm, ⟨44, _⟩ => ⟨S1024x2560, .f32⟩
  | .hbm, ⟨45, _⟩ => ⟨S1024x2560, .bf16⟩
  | .hbm, ⟨46, _⟩ => ⟨S1x512, .f32⟩
  | .hbm, ⟨47, _⟩ => ⟨S512, .f32⟩
  | .hbm, ⟨48, _⟩ => ⟨S1x512, .f32⟩
  | .hbm, ⟨49, _⟩ => ⟨S512, .f32⟩
  | .hbm, ⟨50, _⟩ => ⟨S1x512, .f32⟩
  | .hbm, ⟨51, _⟩ => ⟨S512, .f32⟩
  | .hbm, ⟨52, _⟩ => ⟨S1x512, .f32⟩
  | .hbm, ⟨53, _⟩ => ⟨S512, .f32⟩
  | .hbm, ⟨54, _⟩ => ⟨S2560, .f32⟩
  | .hbm, ⟨55, _⟩ => ⟨S1x2560, .f32⟩
  | .hbm, ⟨56, _⟩ => ⟨S1x256x128, .f32⟩
  | .hbm, ⟨57, _⟩ => ⟨S256x128, .f32⟩
  | .hbm, ⟨58, _⟩ => ⟨S1x256x128, .f32⟩
  | .hbm, ⟨59, _⟩ => ⟨S256x128, .f32⟩
  | .hbm, ⟨60, _⟩ => ⟨S1x256x128, .f32⟩
  | .hbm, ⟨61, _⟩ => ⟨S256x128, .f32⟩
  | .hbm, ⟨62, _⟩ => ⟨S1x256x128, .f32⟩
  | .hbm, ⟨63, _⟩ => ⟨S256x128, .f32⟩
  | .hbm, ⟨64, _⟩ => ⟨S1024x128, .f32⟩
  | .hbm, ⟨65, _⟩ => ⟨S1024x128, .bf16⟩
  | .hbm, ⟨66, _⟩ => ⟨S_, .i32⟩
  | .hbm, ⟨67, _⟩ => ⟨S_, .f32⟩
  | .hbm, ⟨68, _⟩ => ⟨S8x128, .f32⟩
  | .hbm, ⟨69, _⟩ => ⟨S8x128, .bf16⟩
  | .hbm, ⟨70, _⟩ => ⟨S512x256, .bf16⟩
  | .hbm, ⟨71, _⟩ => ⟨S1x256, .f32⟩
  | .hbm, ⟨72, _⟩ => ⟨S256x128, .bf16⟩
  | .hbm, ⟨73, _⟩ => ⟨S1x128, .f32⟩
  | .hbm, ⟨74, _⟩ => ⟨S4x512x256, .bf16⟩
  | .hbm, ⟨75, _⟩ => ⟨S128x64, .bf16⟩
  | .hbm, ⟨76, _⟩ => ⟨S1x64, .f32⟩
  | .hbm, ⟨77, _⟩ => ⟨S64x1, .bf16⟩
  | .hbm, ⟨78, _⟩ => ⟨S1x1, .f32⟩
  | .hbm, ⟨79, _⟩ => ⟨S16x32, .bf16⟩
  | .hbm, ⟨80, _⟩ => ⟨S1x32, .f32⟩
  | .hbm, ⟨81, _⟩ => ⟨S32x1, .bf16⟩
  | .hbm, ⟨82, _⟩ => ⟨S1x1, .f32⟩
  | .hbm, ⟨83, _⟩ => ⟨S16384x1, .f32⟩
  | .local _ .vmem, ⟨0, _⟩ => ⟨S2048x8, .i32⟩
  | .local _ .vmem, ⟨1, _⟩ => ⟨S2048x8, .i32⟩
  | .local _ .vmem, ⟨2, _⟩ => ⟨S2048x1024, .f32⟩
  | .local _ .vmem, ⟨3, _⟩ => ⟨S2048x1024, .f32⟩
  | .local _ .vmem, ⟨4, _⟩ => ⟨S8x2048, .bf16⟩
  | .local _ .vmem, ⟨5, _⟩ => ⟨S1024x2560, .bf16⟩
  | .local _ .vmem, ⟨6, _⟩ => ⟨S1x2560, .f32⟩
  | .local _ .vmem, ⟨7, _⟩ => ⟨S512x256, .bf16⟩
  | .local _ .vmem, ⟨8, _⟩ => ⟨S1x256, .f32⟩
  | .local _ .vmem, ⟨9, _⟩ => ⟨S256x128, .bf16⟩
  | .local _ .vmem, ⟨10, _⟩ => ⟨S1x128, .f32⟩
  | .local _ .vmem, ⟨11, _⟩ => ⟨S4x512x256, .bf16⟩
  | .local _ .vmem, ⟨12, _⟩ => ⟨S4x256, .f32⟩
  | .local _ .vmem, ⟨13, _⟩ => ⟨S1024x128, .bf16⟩
  | .local _ .vmem, ⟨14, _⟩ => ⟨S8x128, .bf16⟩
  | .local _ .vmem, ⟨15, _⟩ => ⟨S128x64, .bf16⟩
  | .local _ .vmem, ⟨16, _⟩ => ⟨S1x64, .f32⟩
  | .local _ .vmem, ⟨17, _⟩ => ⟨S64x1, .bf16⟩
  | .local _ .vmem, ⟨18, _⟩ => ⟨S1x1, .f32⟩
  | .local _ .vmem, ⟨19, _⟩ => ⟨S8x16, .bf16⟩
  | .local _ .vmem, ⟨20, _⟩ => ⟨S16x32, .bf16⟩
  | .local _ .vmem, ⟨21, _⟩ => ⟨S1x32, .f32⟩
  | .local _ .vmem, ⟨22, _⟩ => ⟨S32x1, .bf16⟩
  | .local _ .vmem, ⟨23, _⟩ => ⟨S1x1, .f32⟩
  | .local _ .vmem, ⟨24, _⟩ => ⟨S2048x1, .f32⟩
  | .local _ .vmem, ⟨25, _⟩ => ⟨S2048x1, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_c : Ref sig .tc := ⟨.hbm, 28, rfl⟩
abbrev main_call0_v0 : Ref sig .tc := ⟨.hbm, 29, rfl⟩
abbrev main_v3 : Ref sig .tc := ⟨.hbm, 30, rfl⟩
abbrev main_v4 : Ref sig .tc := ⟨.hbm, 31, rfl⟩
abbrev main_c_0 : Ref sig .tc := ⟨.hbm, 32, rfl⟩
abbrev main_call1_v0 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_c_1 : Ref sig .tc := ⟨.hbm, 66, rfl⟩
abbrev main_call2_v0 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg22_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem22_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x8 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x512x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x64 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64x1 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x16 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S16x32 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x32 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S32x1 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S2048x1 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== ReferenceIdeal.lean ====
abbrev S16384x1024 : Shape := ⟨2, ![16384, 1024]⟩
abbrev S16384 : Shape := ⟨1, ![16384]⟩
abbrev S4x1024 : Shape := ⟨2, ![4, 1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S4x1024x512 : Shape := ⟨3, ![4, 1024, 512]⟩
abbrev S4x512 : Shape := ⟨2, ![4, 512]⟩
abbrev S4x512x256 : Shape := ⟨3, ![4, 512, 256]⟩
abbrev S4x256 : Shape := ⟨2, ![4, 256]⟩
abbrev S4x256x128 : Shape := ⟨3, ![4, 256, 128]⟩
abbrev S4x128 : Shape := ⟨2, ![4, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S4x16 : Shape := ⟨2, ![4, 16]⟩
abbrev S16x32 : Shape := ⟨2, ![16, 32]⟩
abbrev S32 : Shape := ⟨1, ![32]⟩
abbrev S32x1 : Shape := ⟨2, ![32, 1]⟩
abbrev S_ : Shape := ⟨0, ![]⟩
abbrev S16384x1 : Shape := ⟨2, ![16384, 1]⟩
abbrev S16384x512 : Shape := ⟨2, ![16384, 512]⟩
abbrev S1x512 : Shape := ⟨2, ![1, 512]⟩
abbrev S16384x256 : Shape := ⟨2, ![16384, 256]⟩
abbrev S1x256 : Shape := ⟨2, ![1, 256]⟩
abbrev S16384x128 : Shape := ⟨2, ![16384, 128]⟩
abbrev S1x128 : Shape := ⟨2, ![1, 128]⟩
abbrev S16384x4x512 : Shape := ⟨3, ![16384, 4, 512]⟩
abbrev S1x4x512 : Shape := ⟨3, ![1, 4, 512]⟩
abbrev S4x256x16384 : Shape := ⟨3, ![4, 256, 16384]⟩
abbrev S16384x4x256 : Shape := ⟨3, ![16384, 4, 256]⟩
abbrev S1x4x256 : Shape := ⟨3, ![1, 4, 256]⟩
abbrev S4x128x16384 : Shape := ⟨3, ![4, 128, 16384]⟩
abbrev S16384x4x128 : Shape := ⟨3, ![16384, 4, 128]⟩
abbrev S1x4x128 : Shape := ⟨3, ![1, 4, 128]⟩
abbrev S16384x1x1 : Shape := ⟨3, ![16384, 1, 1]⟩
abbrev S1x1x1 : Shape := ⟨3, ![1, 1, 1]⟩
abbrev S16384x1x128 : Shape := ⟨3, ![16384, 1, 128]⟩
abbrev S16384x64 : Shape := ⟨2, ![16384, 64]⟩
abbrev S1x64 : Shape := ⟨2, ![1, 64]⟩
abbrev S1x1 : Shape := ⟨2, ![1, 1]⟩
abbrev S16384x16 : Shape := ⟨2, ![16384, 16]⟩
abbrev S16384x32 : Shape := ⟨2, ![16384, 32]⟩
abbrev S1x32 : Shape := ⟨2, ![1, 32]⟩

abbrev nBuf : Space → Nat
  | .hbm => 172
  | .vmem => 0
  | .smem => 0
  | _ => 0

abbrev hbmTy0_0 (i : Nat) : BufTy := match i % 128 with
  | 0 => ⟨S16384x1024, .f32⟩
  | 1 => ⟨S16384, .i32⟩
  | 2 => ⟨S4x1024, .f32⟩
  | 3 => ⟨S4x1024, .f32⟩
  | 4 => ⟨S1024x512, .f32⟩
  | 5 => ⟨S512, .f32⟩
  | 6 => ⟨S512x256, .f32⟩
  | 7 => ⟨S256, .f32⟩
  | 8 => ⟨S256x128, .f32⟩
  | 9 => ⟨S128, .f32⟩
  | 10 => ⟨S4x1024x512, .f32⟩
  | 11 => ⟨S4x512, .f32⟩
  | 12 => ⟨S4x512x256, .f32⟩
  | 13 => ⟨S4x256, .f32⟩
  | 14 => ⟨S4x256x128, .f32⟩
  | 15 => ⟨S4x128, .f32⟩
  | 16 => ⟨S128x64, .f32⟩
  | 17 => ⟨S64, .f32⟩
  | 18 => ⟨S64x1, .f32⟩
  | 19 => ⟨S1, .f32⟩
  | 20 => ⟨S4x16, .f32⟩
  | 21 => ⟨S16x32, .f32⟩
  | 22 => ⟨S32, .f32⟩
  | 23 => ⟨S32x1, .f32⟩
  | 24 => ⟨S1, .f32⟩
  | 25 => ⟨S_, .f32⟩
  | 26 => ⟨S16384, .f32⟩
  | 27 => ⟨S16384x1, .f32⟩
  | 28 => ⟨S_, .f32⟩
  | 29 => ⟨S16384x1, .f32⟩
  | 30 => ⟨S16384x1, .f32⟩
  | 31 => ⟨S16384x1024, .f32⟩
  | 32 => ⟨S16384x1024, .f32⟩
  | 33 => ⟨S16384x1024, .f32⟩
  | 34 => ⟨S_, .f32⟩
  | 35 => ⟨S16384, .f32⟩
  | 36 => ⟨S16384x1, .f32⟩
  | 37 => ⟨S_, .f32⟩
  | 38 => ⟨S16384x1, .f32⟩
  | 39 => ⟨S16384x1, .f32⟩
  | 40 => ⟨S16384x1024, .f32⟩
  | 41 => ⟨S16384x1024, .f32⟩
  | 42 => ⟨S_, .f32⟩
  | 43 => ⟨S16384x1, .f32⟩
  | 44 => ⟨S16384x1, .f32⟩
  | 45 => ⟨S16384x1, .f32⟩
  | 46 => ⟨S16384x1024, .f32⟩
  | 47 => ⟨S16384x1024, .f32⟩
  | 48 => ⟨S_, .i32⟩
  | 49 => ⟨S16384, .i32⟩
  | 50 => ⟨S16384, .i1⟩
  | 51 => ⟨S_, .i32⟩
  | 52 => ⟨S16384, .i32⟩
  | 53 => ⟨S16384, .i32⟩
  | 54 => ⟨S16384, .i32⟩
  | 55 => ⟨S16384x1, .i32⟩
  | 56 => ⟨S16384x1024, .f32⟩
  | 57 => ⟨S16384x1024, .f32⟩
  | 58 => ⟨S_, .i32⟩
  | 59 => ⟨S16384, .i32⟩
  | 60 => ⟨S16384, .i1⟩
  | 61 => ⟨S_, .i32⟩
  | 62 => ⟨S16384, .i32⟩
  | 63 => ⟨S16384, .i32⟩
  | 64 => ⟨S16384, .i32⟩
  | 65 => ⟨S16384x1, .i32⟩
  | 66 => ⟨S16384x1024, .f32⟩
  | 67 => ⟨S16384x1024, .f32⟩
  | 68 => ⟨S16384x512, .f32⟩
  | 69 => ⟨S1x512, .f32⟩
  | 70 => ⟨S16384x512, .f32⟩
  | 71 => ⟨S16384x512, .f32⟩
  | 72 => ⟨S_, .f32⟩
  | 73 => ⟨S16384x512, .f32⟩
  | 74 => ⟨S16384x512, .f32⟩
  | 75 => ⟨S16384x256, .f32⟩
  | 76 => ⟨S1x256, .f32⟩
  | 77 => ⟨S16384x256, .f32⟩
  | 78 => ⟨S16384x256, .f32⟩
  | 79 => ⟨S_, .f32⟩
  | 80 => ⟨S16384x256, .f32⟩
  | 81 => ⟨S16384x256, .f32⟩
  | 82 => ⟨S16384x128, .f32⟩
  | 83 => ⟨S1x128, .f32⟩
  | 84 => ⟨S16384x128, .f32⟩
  | 85 => ⟨S16384x128, .f32⟩
  | 86 => ⟨S16384x4x512, .f32⟩
  | 87 => ⟨S1x4x512, .f32⟩
  | 88 => ⟨S16384x4x512, .f32⟩
  | 89 => ⟨S16384x4x512, .f32⟩
  | 90 => ⟨S_, .f32⟩
  | 91 => ⟨S16384x4x512, .f32⟩
  | 92 => ⟨S16384x4x512, .f32⟩
  | 93 => ⟨S4x256x16384, .f32⟩
  | 94 => ⟨S16384x4x256, .f32⟩
  | 95 => ⟨S1x4x256, .f32⟩
  | 96 => ⟨S16384x4x256, .f32⟩
  | 97 => ⟨S16384x4x256, .f32⟩
  | 98 => ⟨S_, .f32⟩
  | 99 => ⟨S16384x4x256, .f32⟩
  | 100 => ⟨S16384x4x256, .f32⟩
  | 101 => ⟨S4x128x16384, .f32⟩
  | 102 => ⟨S16384x4x128, .f32⟩
  | 103 => ⟨S1x4x128, .f32⟩
  | 104 => ⟨S16384x4x128, .f32⟩
  | 105 => ⟨S16384x4x128, .f32⟩
  | 106 => ⟨S16384x1x1, .i32⟩
  | 107 => ⟨S_, .i32⟩
  | 108 => ⟨S16384x1x1, .i32⟩
  | 109 => ⟨S16384x1x1, .i1⟩
  | 110 => ⟨S_, .i32⟩
  | 111 => ⟨S16384x1x1, .i32⟩
  | 112 => ⟨S16384x1x1, .i32⟩
  | 113 => ⟨S16384x1x1, .i32⟩
  | 114 => ⟨S1, .i32⟩
  | 115 => ⟨S_, .i32⟩
  | 116 => ⟨S16384x1x1, .i32⟩
  | 117 => ⟨S16384x1x1, .i1⟩
  | 118 => ⟨S1x1x1, .i32⟩
  | 119 => ⟨S16384x1x1, .i32⟩
  | 120 => ⟨S16384x1x1, .i1⟩
  | 121 => ⟨S16384x1x1, .i1⟩
  | 122 => ⟨S_, .i1⟩
  | 123 => ⟨S16384x1, .i1⟩
  | 124 => ⟨S16384x1x128, .f32⟩
  | 125 => ⟨S16384x1x128, .i1⟩
  | 126 => ⟨S_, .f32⟩
  | 127 => ⟨S16384x1x128, .f32⟩
  | _ => ⟨S16384x1024, .f32⟩

abbrev hbmTy0_1 (i : Nat) : BufTy := match i % 128 with
  | 0 => ⟨S16384x1x128, .f32⟩
  | 1 => ⟨S16384x128, .f32⟩
  | 2 => ⟨S16384x128, .f32⟩
  | 3 => ⟨S16384x128, .f32⟩
  | 4 => ⟨S16384x64, .f32⟩
  | 5 => ⟨S1x64, .f32⟩
  | 6 => ⟨S16384x64, .f32⟩
  | 7 => ⟨S16384x64, .f32⟩
  | 8 => ⟨S_, .f32⟩
  | 9 => ⟨S16384x64, .f32⟩
  | 10 => ⟨S16384x64, .f32⟩
  | 11 => ⟨S16384x1, .f32⟩
  | 12 => ⟨S1x1, .f32⟩
  | 13 => ⟨S16384x1, .f32⟩
  | 14 => ⟨S16384x1, .f32⟩
  | 15 => ⟨S_, .i32⟩
  | 16 => ⟨S16384, .i32⟩
  | 17 => ⟨S16384, .i1⟩
  | 18 => ⟨S_, .i32⟩
  | 19 => ⟨S16384, .i32⟩
  | 20 => ⟨S16384, .i32⟩
  | 21 => ⟨S16384, .i32⟩
  | 22 => ⟨S16384x1, .i32⟩
  | 23 => ⟨S16384x16, .f32⟩
  | 24 => ⟨S16384x32, .f32⟩
  | 25 => ⟨S1x32, .f32⟩
  | 26 => ⟨S16384x32, .f32⟩
  | 27 => ⟨S16384x32, .f32⟩
  | 28 => ⟨S_, .f32⟩
  | 29 => ⟨S16384x32, .f32⟩
  | 30 => ⟨S16384x32, .f32⟩
  | 31 => ⟨S16384x1, .f32⟩
  | 32 => ⟨S1x1, .f32⟩
  | 33 => ⟨S16384x1, .f32⟩
  | 34 => ⟨S16384x1, .f32⟩
  | 35 => ⟨S16384x1, .f32⟩
  | 36 => ⟨S16384x1, .f32⟩
  | 37 => ⟨S16384x1, .f32⟩
  | 38 => ⟨S_, .f32⟩
  | 39 => ⟨S16384x1, .f32⟩
  | 40 => ⟨S16384x1, .f32⟩
  | 41 => ⟨S_, .f32⟩
  | 42 => ⟨S16384x1, .f32⟩
  | 43 => ⟨S16384x1, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_cst : Ref sig .tc := ⟨.hbm, 25, rfl⟩
abbrev main_v0 : Ref sig .tc := ⟨.hbm, 26, rfl⟩
abbrev main_v1 : Ref sig .tc := ⟨.hbm, 27, rfl⟩
abbrev main_cst_0 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_cst_1 : Ref sig .tc := ⟨.hbm, 34, rfl⟩
abbrev main_v7 : Ref sig .tc := ⟨.hbm, 35, rfl⟩
abbrev main_v8 : Ref sig .tc := ⟨.hbm, 36, rfl⟩
abbrev main_cst_2 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_cst_3 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_c : Ref sig .tc := ⟨.hbm, 48, rfl⟩
abbrev main_v18 : Ref sig .tc := ⟨.hbm, 49, rfl⟩
abbrev main_v19 : Ref sig .tc := ⟨.hbm, 50, rfl⟩
abbrev main_c_4 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_c_5 : Ref sig .tc := ⟨.hbm, 58, rfl⟩
abbrev main_v26 : Ref sig .tc := ⟨.hbm, 59, rfl⟩
abbrev main_v27 : Ref sig .tc := ⟨.hbm, 60, rfl⟩
abbrev main_c_6 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_call0_cst : Ref sig .tc := ⟨.hbm, 72, rfl⟩
abbrev main_call0_v0 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_call1_cst : Ref sig .tc := ⟨.hbm, 79, rfl⟩
abbrev main_call1_v0 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_call2_cst : Ref sig .tc := ⟨.hbm, 90, rfl⟩
abbrev main_call2_v0 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_call3_cst : Ref sig .tc := ⟨.hbm, 98, rfl⟩
abbrev main_call3_v0 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_call4_c : Ref sig .tc := ⟨.hbm, 107, rfl⟩
abbrev main_call4_v0 : Ref sig .tc := ⟨.hbm, 108, rfl⟩
abbrev main_call4_v1 : Ref sig .tc := ⟨.hbm, 109, rfl⟩
abbrev main_call4_c_0 : Ref sig .tc := ⟨.hbm, 110, rfl⟩
abbrev main_call4_v2 : Ref sig .tc := ⟨.hbm, 111, rfl⟩
abbrev main_call4_v3 : Ref sig .tc := ⟨.hbm, 112, rfl⟩
abbrev main_call4_v4 : Ref sig .tc := ⟨.hbm, 113, rfl⟩
abbrev main_call4_c_1 : Ref sig .tc := ⟨.hbm, 114, rfl⟩
abbrev main_call4_c_2 : Ref sig .tc := ⟨.hbm, 115, rfl⟩
abbrev main_call4_v5 : Ref sig .tc := ⟨.hbm, 116, rfl⟩
abbrev main_call4_v6 : Ref sig .tc := ⟨.hbm, 117, rfl⟩
abbrev main_call4_v7 : Ref sig .tc := ⟨.hbm, 118, rfl⟩
abbrev main_call4_v8 : Ref sig .tc := ⟨.hbm, 119, rfl⟩
abbrev main_call4_v9 : Ref sig .tc := ⟨.hbm, 120, rfl⟩
abbrev main_call4_v10 : Ref sig .tc := ⟨.hbm, 121, rfl⟩
abbrev main_call4_c_3 : Ref sig .tc := ⟨.hbm, 122, rfl⟩
abbrev main_call4_v11 : Ref sig .tc := ⟨.hbm, 123, rfl⟩
abbrev main_call4_v12 : Ref sig .tc := ⟨.hbm, 124, rfl⟩
abbrev main_call4_v13 : Ref sig .tc := ⟨.hbm, 125, rfl⟩
abbrev main_call4_cst : Ref sig .tc := ⟨.hbm, 126, rfl⟩
abbrev main_call4_v14 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_call5_cst : Ref sig .tc := ⟨.hbm, 136, rfl⟩
abbrev main_call5_v0 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_c_7 : Ref sig .tc := ⟨.hbm, 143, rfl⟩
abbrev main_v78 : Ref sig .tc := ⟨.hbm, 144, rfl⟩
abbrev main_v79 : Ref sig .tc := ⟨.hbm, 145, rfl⟩
abbrev main_c_8 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_call6_cst : Ref sig .tc := ⟨.hbm, 156, rfl⟩
abbrev main_call6_v0 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_cst_9 : Ref sig .tc := ⟨.hbm, 166, rfl⟩
abbrev main_v97 : Ref sig .tc := ⟨.hbm, 167, rfl⟩
abbrev main_v98 : Ref sig .tc := ⟨.hbm, 168, rfl⟩
abbrev main_cst_10 : Ref sig .tc := ⟨.hbm, 169, rfl⟩
abbrev main_v99 : Ref sig .tc := ⟨.hbm, 170, rfl⟩
abbrev main_v100 : Ref sig .tc := ⟨.hbm, 171, rfl⟩

abbrev nD : Nat := 1
abbrev τ : Topo := Topo.v7x

variable {F : FTy → Type} [FloatOps F]
-- ==== Proof.Spec.lean ====
module

public import Idealize.ShloMosaic.Lib.Claim
public import Idealize.ShloMosaic.Lib.ValueIdx
public import Idealize.ShloMosaic.Lib.Pointwise

/-!
The score of one row, written over the extended reals as plain functions of finite coordinates: the row `x`, the row's
domain `d` and the weights. Both programs are shown to hold this number for every row.
-/

@[expose] public section

set_option maxRecDepth 16384

noncomputable section

open Idealize.ShloMosaic

namespace Cert.Score

/-- The number of features of a row, as the constant both programs divide by. -/
abbrev width : EReal := Ideal.ofBits .f32 0x44800000#32
/-- The small number added to the variance. -/
abbrev eps : EReal := Ideal.ofBits .f32 0x3727C5AC#32

/-- The mean of a row. -/
def mean (x : Fin 1024 → EReal) : EReal := Ideal.div (∑ k, x k) width
/-- A row less its mean. -/
def cen (x : Fin 1024 → EReal) (k : Fin 1024) : EReal := x k - mean x
/-- The variance of a row. -/
def var (x : Fin 1024 → EReal) : EReal := Ideal.div (∑ k, cen x k * cen x k) width
/-- The row normalised, scaled by `g` and shifted by `b`. -/
def normed (x g b : Fin 1024 → EReal) (k : Fin 1024) : EReal :=
  Ideal.div (cen x k) (Ideal.sqrt (var x + eps)) * g k + b k

/-- One dense layer: the product with the weights and the bias. -/
def dense {n p : Nat} (h : Fin n → EReal) (W : Fin n → Fin p → EReal) (b : Fin p → EReal) (j : Fin p) : EReal :=
  (∑ k, h k * W k j) + b j
/-- One dense layer followed by the positive part. -/
def layer {n p : Nat} (h : Fin n → EReal) (W : Fin n → Fin p → EReal) (b : Fin p → EReal) (j : Fin p) : EReal :=
  max (dense h W b j) 0

/-- Three layers, the last without the positive part. -/
def net (h : Fin 1024 → EReal) (W1 : Fin 1024 → Fin 512 → EReal) (b1 : Fin 512 → EReal)
    (W2 : Fin 512 → Fin 256 → EReal) (b2 : Fin 256 → EReal) (W3 : Fin 256 → Fin 128 → EReal) (b3 : Fin 128 → EReal) :
    Fin 128 → EReal :=
  dense (layer (layer h W1 b1) W2 b2) W3 b3

/-- The head: the shared features times the squashed domain features, through two layers. -/
def head (c s : Fin 128 → EReal) (W1 : Fin 128 → Fin 64 → EReal) (b1 : Fin 64 → EReal)
    (W2 : Fin 64 → Fin 1 → EReal) (b2 : Fin 1 → EReal) : EReal :=
  dense (layer (fun j => c j * Ideal.tanh (s j)) W1 b1) W2 b2 0

/-- The contribution of the domain's own embedding. -/
def aux (e : Fin 16 → EReal) (W1 : Fin 16 → Fin 32 → EReal) (b1 : Fin 32 → EReal)
    (W2 : Fin 32 → Fin 1 → EReal) (b2 : Fin 1 → EReal) : EReal :=
  dense (layer e W1 b1) W2 b2 0

/-- The weights, as functions of coordinates: the scale and shift of every domain, the shared layers, every domain's
    own layers, the head, and the embeddings with their layers. -/
structure Weights where
  gain : Fin 4 → Fin 1024 → EReal
  shift : Fin 4 → Fin 1024 → EReal
  cW1 : Fin 1024 → Fin 512 → EReal
  cb1 : Fin 512 → EReal
  cW2 : Fin 512 → Fin 256 → EReal
  cb2 : Fin 256 → EReal
  cW3 : Fin 256 → Fin 128 → EReal
  cb3 : Fin 128 → EReal
  dW1 : Fin 4 → Fin 1024 → Fin 512 → EReal
  db1 : Fin 4 → Fin 512 → EReal
  dW2 : Fin 4 → Fin 512 → Fin 256 → EReal
  db2 : Fin 4 → Fin 256 → EReal
  dW3 : Fin 4 → Fin 256 → Fin 128 → EReal
  db3 : Fin 4 → Fin 128 → EReal
  fW1 : Fin 128 → Fin 64 → EReal
  fb1 : Fin 64 → EReal
  fW2 : Fin 64 → Fin 1 → EReal
  fb2 : Fin 1 → EReal
  emb : Fin 4 → Fin 16 → EReal
  aW1 : Fin 16 → Fin 32 → EReal
  ab1 : Fin 32 → EReal
  aW2 : Fin 32 → Fin 1 → EReal
  ab2 : Fin 1 → EReal

/-- The features that the shared layers make of a normalised row. -/
def shared (w : Weights) (h : Fin 1024 → EReal) : Fin 128 → EReal := net h w.cW1 w.cb1 w.cW2 w.cb2 w.cW3 w.cb3
/-- The features that the layers of domain `d` make of a normalised row. -/
def own (w : Weights) (d : Fin 4) (h : Fin 1024 → EReal) : Fin 128 → EReal :=
  net h (w.dW1 d) (w.db1 d) (w.dW2 d) (w.db2 d) (w.dW3 d) (w.db3 d)
/-- The score of the row `x` of domain `d`. -/
def score (w : Weights) (x : Fin 1024 → EReal) (d : Fin 4) : EReal :=
  Ideal.logistic
    (head (shared w (normed x (w.gain d) (w.shift d))) (own w d (normed x (w.gain d) (w.shift d))) w.fW1 w.fb1 w.fW2 w.fb2
      + aux (w.emb d) w.aW1 w.ab1 w.aW2 w.ab2)

/-- The weights that the twenty-three weight arrays hold. -/
def weights (x2 x3 : FVec Ideal ⟨2, ![4, 1024]⟩ .f32)
    (x4 : FVec Ideal ⟨2, ![1024, 512]⟩ .f32) (x5 : FVec Ideal ⟨1, ![512]⟩ .f32) (x6 : FVec Ideal ⟨2, ![512, 256]⟩ .f32)
    (x7 : FVec Ideal ⟨1, ![256]⟩ .f32) (x8 : FVec Ideal ⟨2, ![256, 128]⟩ .f32) (x9 : FVec Ideal ⟨1, ![128]⟩ .f32)
    (x10 : FVec Ideal ⟨3, ![4, 1024, 512]⟩ .f32) (x11 : FVec Ideal ⟨2, ![4, 512]⟩ .f32)
    (x12 : FVec Ideal ⟨3, ![4, 512, 256]⟩ .f32) (x13 : FVec Ideal ⟨2, ![4, 256]⟩ .f32)
    (x14 : FVec Ideal ⟨3, ![4, 256, 128]⟩ .f32) (x15 : FVec Ideal ⟨2, ![4, 128]⟩ .f32)
    (x16 : FVec Ideal ⟨2, ![128, 64]⟩ .f32) (x17 : FVec Ideal ⟨1, ![64]⟩ .f32) (x18 : FVec Ideal ⟨2, ![64, 1]⟩ .f32)
    (x19 : FVec Ideal ⟨1, ![1]⟩ .f32) (x20 : FVec Ideal ⟨2, ![4, 16]⟩ .f32) (x21 : FVec Ideal ⟨2, ![16, 32]⟩ .f32)
    (x22 : FVec Ideal ⟨1, ![32]⟩ .f32) (x23 : FVec Ideal ⟨2, ![32, 1]⟩ .f32) (x24 : FVec Ideal ⟨1, ![1]⟩ .f32) :
    Weights where
  gain d k := x2 (ix2 d k)
  shift d k := x3 (ix2 d k)
  cW1 k j := x4 (ix2 k j)
  cb1 j := x5 (ix1 j)
  cW2 k j := x6 (ix2 k j)
  cb2 j := x7 (ix1 j)
  cW3 k j := x8 (ix2 k j)
  cb3 j := x9 (ix1 j)
  dW1 d k j := x10 (ix3 d k j)
  db1 d j := x11 (ix2 d j)
  dW2 d k j := x12 (ix3 d k j)
  db2 d j := x13 (ix2 d j)
  dW3 d k j := x14 (ix3 d k j)
  db3 d j := x15 (ix2 d j)
  fW1 k j := x16 (ix2 k j)
  fb1 j := x17 (ix1 j)
  fW2 k j := x18 (ix2 k j)
  fb2 j := x19 (ix1 j)
  emb d k := x20 (ix2 d k)
  aW1 k j := x21 (ix2 k j)
  ab1 j := x22 (ix1 j)
  aW2 k j := x23 (ix2 k j)
  ab2 j := x24 (ix1 j)

/-- The variance is not negative. -/
theorem var_nonneg (x : Fin 1024 → EReal) : 0 ≤ var x := by
  have hw : width = ((1024 : ℝ) : EReal) := by
    simp [width, Ideal.ofBits, Ideal.ieee, -EReal.coe_mul]
    try norm_num
  unfold var
  rw [hw]
  unfold Ideal.div
  rw [if_neg (by norm_num)]
  refine mul_nonneg (Finset.sum_nonneg fun k _ => ?_) ?_
  · rcases le_total 0 (cen x k) with h | h
    · exact mul_nonneg h h
    · have := mul_nonneg (EReal.neg_nonneg.2 h) (EReal.neg_nonneg.2 h)
      simpa using this
  · exact EReal.inv_nonneg_of_nonneg (by norm_num)

/-- The small number is positive. -/
theorem eps_pos : 0 < eps := by
  have h : ∃ r : ℝ, 0 < r ∧ eps = (r : EReal) := by
    refine ⟨(10995116 : ℝ) * 2 ^ (-40 : ℤ), by positivity, ?_⟩
    simp [eps, Ideal.ofBits, Ideal.ieee, -EReal.coe_mul]
    try norm_num
  obtain ⟨r, h0, h⟩ := h
  rw [h]
  exact_mod_cast h0

/-- A positive number's reciprocal root multiplies as its root divides. -/
theorem mul_rsqrt (y v : EReal) (hv : 0 < v) : y * Ideal.rsqrt v = Ideal.div y (Ideal.sqrt v) := by
  induction v with
  | bot => simp at hv
  | top =>
    have e1 : Ideal.rsqrt ⊤ = 0 := rfl
    have e2 : Ideal.sqrt ⊤ = ⊤ := rfl
    rw [e1, e2, Ideal.div, if_neg (by simp), EReal.inv_top]
  | coe r =>
    have hr : 0 < r := by exact_mod_cast hv
    have hs : 0 < Real.sqrt r := Real.sqrt_pos.2 hr
    have e1 : Ideal.rsqrt (r : EReal)
        = if r < 0 then (⊥ : EReal) else if r = 0 then ⊤ else (((Real.sqrt r)⁻¹ : ℝ) : EReal) := rfl
    have e2 : Ideal.sqrt (r : EReal) = if r < 0 then (⊥ : EReal) else (Real.sqrt r : EReal) := rfl
    rw [e1, e2, if_neg hr.le.not_gt, if_neg hr.ne', if_neg hr.le.not_gt, Ideal.div,
      if_neg (by exact_mod_cast hs.ne'), EReal.coe_inv]

/-- The normalised row, as the product with the reciprocal root. -/
theorem normed_eq (x g b : Fin 1024 → EReal) (k : Fin 1024) :
    cen x k * Ideal.rsqrt (var x + eps) * g k + b k = normed x g b k := by
  unfold normed
  rw [mul_rsqrt _ _ (lt_of_lt_of_le eps_pos (by simpa using add_le_add_left (var_nonneg x) eps))]

/-- A sum weighted by the indicator of one index is the term at that index. -/
theorem sum_pick {n : Nat} (e T : Fin n → EReal) (d : Fin n) (h1 : e d = 1) (h0 : ∀ k, k ≠ d → e k = 0) :
    ∑ k, e k * T k = T d := by
  rw [Finset.sum_eq_single d (fun k _ hk => by rw [h0 k hk, zero_mul]) (fun h => absurd (Finset.mem_univ _) h), h1, one_mul]

/-- The indicator of domain `d` over the eight padded rows. -/
def hot (d : Fin 4) (k : Fin 8) : EReal := if k.val = d.val then 1 else 0

/-- Domain `d` among the eight padded rows. -/
abbrev wide (d : Fin 4) : Fin 8 := ⟨d.val, by omega⟩

/-- The indicator of domain `d` picks out row `d`. -/
theorem hot_sum (d : Fin 4) (T : Fin 8 → EReal) : ∑ k, hot d k * T k = T (wide d) := by
  refine sum_pick (hot d) T (wide d) (if_pos rfl) fun k hk => if_neg fun h => hk (Fin.ext h)

/-- The place of feature `k` of domain `e` when the domains' features lie side by side. -/
abbrev cell (e : Fin 4) (k : Fin 256) : Fin 1024 := ⟨256 * e.val + k.val, by omega⟩

/-- When the features side by side are zero off domain `d`, their sum of products is domain `d`'s. -/
theorem sum_cells (C W : Fin 1024 → EReal) (h : Fin 4 → Fin 256 → EReal) (d : Fin 4)
    (hC : ∀ e k, C (cell e k) = hot d (wide e) * h e k) :
    ∑ k, C k * W k = ∑ k, h d k * W (cell d k) := by
  have hp : ∑ k, C k * W k = ∑ p : Fin 4 × Fin 256, C (cell p.1 p.2) * W (cell p.1 p.2) := by
    refine (Equiv.sum_comp (finProdFinEquiv (m := 4) (n := 256)) fun k => C k * W k).symm.trans
      (Finset.sum_congr rfl fun p _ => ?_)
    have e : (finProdFinEquiv (m := 4) (n := 256)) p = cell p.1 p.2 :=
      Fin.ext (by simp [finProdFinEquiv, Nat.add_comm])
    show C (finProdFinEquiv p) * W (finProdFinEquiv p) = _
    rw [e]
  rw [hp, Fintype.sum_prod_type]
  have hz : ∀ e : Fin 4, e ≠ d → ∑ k, C (cell e k) * W (cell e k) = 0 := fun e he =>
    Finset.sum_eq_zero fun k _ => by
      rw [hC, hot, if_neg (fun h => he (Fin.ext h)), zero_mul, zero_mul]
  rw [Finset.sum_eq_single d (fun e _ he => hz e he) (fun h => absurd (Finset.mem_univ _) h)]
  refine Finset.sum_congr rfl fun k _ => ?_
  rw [hC, hot, if_pos rfl, one_mul]

end Cert.Score
-- ==== Proof.KernelFirst.lean ====
module

public import proofs.«01_k».proof.Proof.Gen.KernelIdeal.Skeleton
public import proofs.«01_k».proof.Proof.Spec
public import Idealize.ShloMosaic.Lib.Pipeline.ValueKit

/-!
The block program's rows, first part: the indicator of a row's domain, and the first layer of every branch at once.
-/

@[expose] public section

set_option maxRecDepth 16384

noncomputable section

open Idealize.ShloMosaic Idealize.ShloMosaic.TcCoe Idealize.SL.Sem

namespace Cert.KernelIdeal.Row

open Cert.KernelIdeal Cert.KernelIdeal.Gen Cert.Score

variable (ids : IVec S2048x8 32) (r : Fin 2048) (d : Fin 4)
  (hid : ∀ k, ids (ix2 r k) = BitVec.ofNat 32 d.val)

/-- Comparing a domain's number with a column's number tells whether they are equal. -/
theorem word_eq (d : Fin 4) (k : Fin 8) :
    IntOp.cmpi .eq (BitVec.ofNat 32 d.val) (BitVec.ofNat 32 k.val) = if k.val = d.val then 1#1 else 0#1 := by
  revert d k; decide

include hid

/-- The indicator of the row's domain, at single width. -/
theorem hot_at (k : Fin 8) : k0_pay2 (F := Ideal) ids (ix2 r k) = hot d k := by
  pointwise [k0_pay2]
  rw [hid, word_eq]
  unfold hot
  split <;> rfl

/-- The indicator of the row's domain, at half width. -/
theorem hot_at' (k : Fin 8) : k0_pay3 (F := Ideal) ids (ix2 r k) = hot d k := by
  pointwise [k0_pay3]
  exact hot_at ids r d hid k

/-- The first layer of all branches on the row, before the positive part. -/
theorem first_at (x : FVec Ideal S2048x1024 .f32) (gb : FVec Ideal S8x2048 .bf16) (W : FVec Ideal S1024x2560 .bf16)
    (b : FVec Ideal S1x2560 .f32) (j : Fin 2560) :
    k0_pay4 (F := Ideal) x ids gb W b (ix2 r j)
      = dense (normed (fun k => x (ix2 r k)) (fun k => gb (ix2 (wide d) ⟨k.val, by omega⟩))
          (fun k => gb (ix2 (wide d) ⟨1024 + k.val, by omega⟩))) (fun k j => W (ix2 k j)) (fun j => b (ix2 0 j)) j := by
  pointwise [k0_pay4]
  simp only [hot_at' ids r d hid, hot_sum]
  unfold dense
  simp only [← normed_eq]
  rfl

end Cert.KernelIdeal.Row
-- ==== Proof.KernelLayers.lean ====
module

public import proofs.«01_k».proof.Proof.KernelFirst

/-!
The block program's rows, second part: the shared layers after the first, and every domain's second layer, masked by
the domain's indicator, through the side-by-side third layer.
-/

@[expose] public section

set_option maxRecDepth 16384

noncomputable section

open Idealize.ShloMosaic Idealize.ShloMosaic.TcCoe Idealize.SL.Sem

namespace Cert.KernelIdeal.Row

open Cert.KernelIdeal Cert.KernelIdeal.Gen Cert.Score

variable (r : Fin 2048) (d : Fin 4)

section
variable (first : FVec Ideal S2048x2560 .f32) (f : Fin 2560 → EReal) (hf : ∀ j, first (ix2 r j) = f j)

include hf

/-- The positive part of the first layers. -/
theorem pos_at (j : Fin 2560) : k0_pay5 (F := Ideal) first (ix2 r j) = max (f j) 0 := by
  pointwise [k0_pay5]
  rw [hf]

/-- The shared features of the row. -/
theorem shared_at (W2 : FVec Ideal S512x256 .bf16) (b2 : FVec Ideal S1x256 .f32) (W3 : FVec Ideal S256x128 .bf16)
    (b3 : FVec Ideal S1x128 .f32) (j : Fin 128) :
    k0_pay6 (F := Ideal) first W2 b2 W3 b3 (ix2 r j)
      = dense (layer (fun k : Fin 512 => max (f ⟨k.val, by omega⟩) 0) (fun k j => W2 (ix2 k j)) (fun j => b2 (ix2 0 j)))
          (fun k j => W3 (ix2 k j)) (fun j => b3 (ix2 0 j)) j := by
  pointwise [k0_pay6]
  simp only [pos_at r first f hf]
  rfl

/-- The second layer of domain zero, masked. -/
theorem second0_at (ind : FVec Ideal S2048x8 .f32) (hi : ∀ k, ind (ix2 r k) = hot d k) (W2 : FVec Ideal S1x512x256 .bf16)
    (b2 : FVec Ideal S1x256 .f32) (j : Fin 256) :
    k0_pay7 (F := Ideal) ind first W2 b2 (ix2 r j)
      = hot d 0 * layer (fun k : Fin 512 => max (f ⟨512 + k.val, by omega⟩) 0) (fun k j => W2 (ix3 0 k j))
          (fun j => b2 (ix2 0 j)) j := by
  pointwise [k0_pay7]
  simp only [pos_at r first f hf, hi]
  rfl

/-- The first layer of domain one. -/
theorem first1_at (j : Fin 512) :
    k0_pay8 (F := Ideal) first (ix2 r j) = max (f ⟨1024 + j.val, by omega⟩) 0 := by
  pointwise [k0_pay8]
  rw [pos_at r first f hf]

end

/-- The second layers of the four domains, each masked, through the side-by-side third layer: the row's own domain's
    second layer through that domain's part. -/
theorem third_at (ind : FVec Ideal S2048x8 .f32) (hi : ∀ k, ind (ix2 r k) = hot d k)
    (pos : FVec Ideal S2048x2560 .bf16) (g : Fin 2560 → EReal) (hp : ∀ j, pos (ix2 r j) = g j)
    (L : Fin 4 → Fin 256 → EReal) (W2 : Fin 4 → Fin 512 → Fin 256 → EReal) (b2 : Fin 4 → Fin 256 → EReal)
    (hL : ∀ e, L e = layer (fun k : Fin 512 => g ⟨512 + 512 * e.val + k.val, by omega⟩) (W2 e) (b2 e))
    (s0 : FVec Ideal S2048x256 .bf16) (h0 : ∀ j, s0 (ix2 r j) = hot d 0 * L 0 j)
    (f1 : FVec Ideal S2048x512 .bf16) (h1 : ∀ j : Fin 512, f1 (ix2 r j) = g ⟨1024 + j.val, by omega⟩)
    (w1 : FVec Ideal S512x256 .bf16) (hw1 : ∀ k j, w1 (ix2 k j) = W2 1 k j)
    (c1 : FVec Ideal S1x256 .f32) (hc1 : ∀ j, c1 (ix2 0 j) = b2 1 j)
    (w2 : FVec Ideal S1x512x256 .bf16) (hw2 : ∀ k j, w2 (ix3 0 k j) = W2 2 k j)
    (c2 : FVec Ideal S1x256 .f32) (hc2 : ∀ j, c2 (ix2 0 j) = b2 2 j)
    (w3 : FVec Ideal S1x512x256 .bf16) (hw3 : ∀ k j, w3 (ix3 0 k j) = W2 3 k j)
    (c3 : FVec Ideal S1x256 .f32) (hc3 : ∀ j, c3 (ix2 0 j) = b2 3 j)
    (W3 : FVec Ideal S1024x128 .bf16) (j : Fin 128) :
    k0_pay10 (F := Ideal) ind pos s0 f1 w1 (constant S2048x256 .f32 0x00000000#32) c1 w2 c2 w3 c3 W3 (ix2 r j)
      = ∑ k, L d k * W3 (ix2 (cell d k) j) := by
  pointwise [k0_pay10]
  simp only [h0, h1, hi, hp, hw1, hc1, hw2, hc2, hw3, hc3]
  refine sum_cells _ (fun k => W3 (ix2 k j)) L d fun e k => ?_
  have hk := k.isLt
  match e with
  | 0 =>
    refine (dif_pos (by show 256 * 0 + k.val < 256; omega)).trans ?_
    exact congrArg (fun q => hot d 0 * L 0 q) (Fin.ext (by show 256 * 0 + k.val = k.val; omega))
  | 1 =>
    refine (dif_neg (by show ¬ 256 * 1 + k.val < 256; omega)).trans
      ((dif_pos (by show 256 * 1 + k.val - 256 < 256; omega)).trans ?_)
    rw [hL]
    exact congrArg (fun q => hot d 1 * layer (fun k : Fin 512 => g ⟨1024 + k.val, by omega⟩) (W2 1) (b2 1) q)
      (Fin.ext (by show 256 * 1 + k.val - 256 = k.val; omega))
  | 2 =>
    refine (dif_neg (by show ¬ 256 * 2 + k.val < 256; omega)).trans
      ((dif_neg (by show ¬ 256 * 2 + k.val - 256 < 256; omega)).trans
        ((dif_pos (by show 256 * 2 + k.val - 256 - 256 < 256; omega)).trans ?_))
    rw [hL]
    exact congrArg (fun q => hot d 2 * layer (fun k : Fin 512 => g ⟨1536 + k.val, by omega⟩) (W2 2) (b2 2) q)
      (Fin.ext (by show 256 * 2 + k.val - 256 - 256 = k.val; omega))
  | 3 =>
    refine (dif_neg (by show ¬ 256 * 3 + k.val < 256; omega)).trans
      ((dif_neg (by show ¬ 256 * 3 + k.val - 256 < 256; omega)).trans
        ((dif_neg (by show ¬ 256 * 3 + k.val - 256 - 256 < 256; omega)).trans ?_))
    rw [hL]
    exact congrArg (fun q => hot d 3 * layer (fun k : Fin 512 => g ⟨2048 + k.val, by omega⟩) (W2 3) (b2 3) q)
      (Fin.ext (by show 256 * 3 + k.val - 256 - 256 - 256 = k.val; omega))

end Cert.KernelIdeal.Row
-- ==== Proof.KernelHead.lean ====
module

public import proofs.«01_k».proof.Proof.KernelLayers

/-!
The block program's rows, third part: the head, the embedding's part and the score.
-/

@[expose] public section

set_option maxRecDepth 16384

noncomputable section

open Idealize.ShloMosaic Idealize.ShloMosaic.TcCoe Idealize.SL.Sem

namespace Cert.KernelIdeal.Row

open Cert.KernelIdeal Cert.KernelIdeal.Gen Cert.Score

variable (r : Fin 2048) (d : Fin 4) (ind : FVec Ideal S2048x8 .bf16) (hi : ∀ k, ind (ix2 r k) = hot d k)

include hi

/-- The head's value on the row. -/
theorem head_at (c : FVec Ideal S2048x128 .f32) (s : FVec Ideal S2048x128 .f32) (b3 : FVec Ideal S8x128 .bf16)
    (W1 : FVec Ideal S128x64 .bf16) (b1 : FVec Ideal S1x64 .f32) (W2 : FVec Ideal S64x1 .bf16) (b2 : FVec Ideal S1x1 .f32)
    (e : Fin 1) :
    k0_pay11 (F := Ideal) ind c s b3 W1 b1 W2 b2 (ix2 r e)
      = head (fun j => c (ix2 r j)) (fun j => s (ix2 r j) + b3 (ix2 (wide d) j)) (fun k j => W1 (ix2 k j))
          (fun j => b1 (ix2 0 j)) (fun k j => W2 (ix2 k j)) (fun j => b2 (ix2 0 j)) := by
  pointwise [k0_pay11]
  simp only [hi, hot_sum]
  obtain rfl : e = 0 := Subsingleton.elim _ _
  rfl

/-- The score of the row: the head's value and the embedding's value of the row's domain, squashed. -/
theorem squash_at (v : FVec Ideal S2048x1 .f32) (E : FVec Ideal S8x16 .bf16) (W1 : FVec Ideal S16x32 .bf16)
    (b1 : FVec Ideal S1x32 .f32) (W2 : FVec Ideal S32x1 .bf16) (b2 : FVec Ideal S1x1 .f32) (e : Fin 1) :
    k0_pay1 (F := Ideal) ind v (k0_pay12 E W1 b1) W2 b2 (ix2 r e)
      = Ideal.logistic (v (ix2 r 0) + aux (fun k => E (ix2 (wide d) k)) (fun k j => W1 (ix2 k j)) (fun j => b1 (ix2 0 j))
          (fun k j => W2 (ix2 k j)) (fun j => b2 (ix2 0 j))) := by
  pointwise [k0_pay1, k0_pay12]
  simp only [hi, hot_sum]
  obtain rfl : e = 0 := Subsingleton.elim _ _
  rfl

end Cert.KernelIdeal.Row
-- ==== Proof.KernelIdealFrame.lean ====
/- The frame of the fused kernel: KernelIdeal. What the host code leaves in the pallas_call's arrays, what one grid point
   leaves in the staging buffers, the body's triple, and the run to its end. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host code before the call -/

/-- The lines of host operations that run before the call, in their order. -/
abbrev hostLines : List (List (HloOp τ sig (Elt F))) :=
  [hostOps0, hostOps0_1, hostOps0_2, hostOps0_3, hostOps0_4, hostOps0_5, hostOps0_6]

/-- The buffers of core `c` when the call begins: those at launch, changed by the host operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6])
    (fun b => m (c, b)) b

/-- No host operation allocates a buffer. -/
theorem host_fresh : (hostLines (F := F)).Forall fun l => l.Forall fun op => op.fresh = ∅ := by
  simp only [List.Forall]; repeat' constructor

/-- Every host operation touches only buffers of the core that runs it. -/
theorem host_sub : (hostLines (F := F)).Forall fun l => l.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub⟩

set_option maxHeartbeats 800000 in
/-- The program runs the host lines and comes to the call with its buffers at `V`. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefixes cfgs 0 defs₀ 𝒱₀ m main hostLines host_sub host_fresh main_chain

/-- The buffers that the host operations write, one for each operation in order. -/
abbrev written : List (Ref sig .tc) :=
  [
    main_v0, main_v1, main_v2, main_c, main_call0_v0, main_v3, main_v4, main_c_0, main_call1_v0, main_v5, main_v6,
    main_v7, main_v8, main_v9, main_v10, main_v11, main_v12, main_v13, main_v14, main_v15, main_v16, main_v17, main_v18,
    main_v19, main_v20, main_v21, main_v22, main_v23, main_v24, main_v25, main_v26, main_v27, main_v28, main_v29,
    main_v30, main_v31, main_v32, main_v33, main_v34, main_v35, main_v36, main_c_1, main_call2_v0, main_v37, main_v38,
    main_v39, main_v40, main_v41, main_v42, main_v43, main_v44, main_v45, main_v46, main_v47, main_v48, main_v49,
    main_v50, main_v51]

/-- Each host operation writes the buffer listed at its place, and no other. -/
theorem host_writes : (List.flatten (hostLines (F := F))).map HloOp.writes = written.map fun r => {Proc.devRef (τ := τ) .tc r} :=
  rfl

/-- A buffer that no host operation writes holds at the call what it held at launch. -/
theorem V_kept (c : Dev nD) (b : Ref sig .tc) (hb : b ∉ written) : V m c b = m ((c : Thread nD τ).loc b) :=
  StableHlo.after_of_writes_sub (W := written) (List.flatten hostLines) (fun b => m (c, b))
    (StableHlo.forall_writes_sub_of_map host_writes) hb

/-- The block of window `w` at grid point `t`, read from the window's array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What one grid point computes -/

abbrev r0_0 : Rect S2048x1024 := Rect.unit (s := S2048x1024) ![0, 0] S2048x1024.size inb_S2048x1024_S2048x1024_0_0
abbrev r0_1 : Rect S2048x8 := Rect.unit (s := S2048x8) ![0, 0] S2048x8.size inb_S2048x8_S2048x8_0_0
abbrev r0_2 : Rect S8x2048 := Rect.unit (s := S8x2048) ![0, 0] S8x2048.size inb_S8x2048_S8x2048_0_0
abbrev r0_3 : Rect S1024x2560 := Rect.unit (s := S1024x2560) ![0, 0] S1024x2560.size inb_S1024x2560_S1024x2560_0_0
abbrev r0_4 : Rect S1x2560 := Rect.unit (s := S1x2560) ![0, 0] S1x2560.size inb_S1x2560_S1x2560_0_0
abbrev r0_5 : Rect S512x256 := Rect.unit (s := S512x256) ![0, 0] S512x256.size inb_S512x256_S512x256_0_0
abbrev r0_6 : Rect S1x256 := Rect.unit (s := S1x256) ![0, 0] S1x256.size inb_S1x256_S1x256_0_0
abbrev r0_7 : Rect S256x128 := Rect.unit (s := S256x128) ![0, 0] S256x128.size inb_S256x128_S256x128_0_0
abbrev r0_8 : Rect S1x128 := Rect.unit (s := S1x128) ![0, 0] S1x128.size inb_S1x128_S1x128_0_0
abbrev r0_9 : Rect S4x512x256 := Rect.unit (s := S4x512x256) ![0, 0, 0] S1x512x256.size inb_S4x512x256_S1x512x256_0_0_0
abbrev r0_10 : Rect S4x256 := Rect.unit (s := S4x256) ![0, 0] S1x256.size inb_S4x256_S1x256_0_0
abbrev r0_11 : Rect S4x512x256 := Rect.unit (s := S4x512x256) ![1, 0, 0] S1x512x256.size inb_S4x512x256_S1x512x256_1_0_0
abbrev r0_12 : Rect S4x256 := Rect.unit (s := S4x256) ![1, 0] S1x256.size inb_S4x256_S1x256_1_0
abbrev r0_13 : Rect S4x512x256 := Rect.unit (s := S4x512x256) ![2, 0, 0] S1x512x256.size inb_S4x512x256_S1x512x256_2_0_0
abbrev r0_14 : Rect S4x256 := Rect.unit (s := S4x256) ![2, 0] S1x256.size inb_S4x256_S1x256_2_0
abbrev r0_15 : Rect S4x512x256 := Rect.unit (s := S4x512x256) ![3, 0, 0] S1x512x256.size inb_S4x512x256_S1x512x256_3_0_0
abbrev r0_16 : Rect S4x256 := Rect.unit (s := S4x256) ![3, 0] S1x256.size inb_S4x256_S1x256_3_0
abbrev r0_17 : Rect S1024x128 := Rect.unit (s := S1024x128) ![0, 0] S1024x128.size inb_S1024x128_S1024x128_0_0
abbrev r0_18 : Rect S8x128 := Rect.unit (s := S8x128) ![0, 0] S8x128.size inb_S8x128_S8x128_0_0
abbrev r0_19 : Rect S128x64 := Rect.unit (s := S128x64) ![0, 0] S128x64.size inb_S128x64_S128x64_0_0
abbrev r0_20 : Rect S1x64 := Rect.unit (s := S1x64) ![0, 0] S1x64.size inb_S1x64_S1x64_0_0
abbrev r0_21 : Rect S64x1 := Rect.unit (s := S64x1) ![0, 0] S64x1.size inb_S64x1_S64x1_0_0
abbrev r0_22 : Rect S1x1 := Rect.unit (s := S1x1) ![0, 0] S1x1.size inb_S1x1_S1x1_0_0
abbrev r0_23 : Rect S8x16 := Rect.unit (s := S8x16) ![0, 0] S8x16.size inb_S8x16_S8x16_0_0
abbrev r0_24 : Rect S16x32 := Rect.unit (s := S16x32) ![0, 0] S16x32.size inb_S16x32_S16x32_0_0
abbrev r0_25 : Rect S1x32 := Rect.unit (s := S1x32) ![0, 0] S1x32.size inb_S1x32_S1x32_0_0
abbrev r0_26 : Rect S32x1 := Rect.unit (s := S32x1) ![0, 0] S32x1.size inb_S32x1_S32x1_0_0
abbrev r0_27 : Rect S2048x1 := Rect.unit (s := S2048x1) ![0, 0] S2048x1.size inb_S2048x1_S2048x1_0_0

/-- The column of results that one grid point stores, from the blocks it loads. -/
def payload
    (x0 : Vec F S2048x8 .i32) (x1 : Vec F S2048x1024 .f32) (x2 : Vec F S8x2048 .bf16) (x3 : Vec F S1024x2560 .bf16)
    (x4 : Vec F S1x2560 .f32) (x5 : Vec F S512x256 .bf16) (x6 : Vec F S1x256 .f32) (x7 : Vec F S256x128 .bf16)
    (x8 : Vec F S1x128 .f32) (x9 : Vec F S4x512x256 .bf16) (x10 : Vec F S4x256 .f32) (x11 : Vec F S1024x128 .bf16)
    (x12 : Vec F S8x128 .bf16) (x13 : Vec F S128x64 .bf16) (x14 : Vec F S1x64 .f32) (x15 : Vec F S64x1 .bf16)
    (x16 : Vec F S1x1 .f32) (x17 : Vec F S8x16 .bf16) (x18 : Vec F S16x32 .bf16) (x19 : Vec F S1x32 .f32)
    (x20 : Vec F S32x1 .bf16) (x21 : Vec F S1x1 .f32) : Vec F S2048x1 .f32 :=
  k0_pay1 (k0_pay3 (View.ld x0 r0_1)) (k0_pay11 (k0_pay3 (View.ld x0 r0_1)) (k0_pay6 (k0_pay4 (View.ld x1 r0_0)
  (View.ld x0 r0_1) (View.ld x2 r0_2) (View.ld x3 r0_3) (View.ld x4 r0_4)) (View.ld x5 r0_5) (View.ld x6 r0_6)
  (View.ld x7 r0_7) (View.ld x8 r0_8)) (k0_pay10 (k0_pay2 (View.ld x0 r0_1)) (k0_pay5 (k0_pay4 (View.ld x1 r0_0)
  (View.ld x0 r0_1) (View.ld x2 r0_2) (View.ld x3 r0_3) (View.ld x4 r0_4))) (k0_pay7 (k0_pay2 (View.ld x0 r0_1))
  (k0_pay4 (View.ld x1 r0_0) (View.ld x0 r0_1) (View.ld x2 r0_2) (View.ld x3 r0_3) (View.ld x4 r0_4)) (View.ld x9
  r0_9) (View.ld x10 r0_10)) (k0_pay8 (k0_pay4 (View.ld x1 r0_0) (View.ld x0 r0_1) (View.ld x2 r0_2) (View.ld x3 r0_3)
  (View.ld x4 r0_4))) (k0_pay9 (View.ld x9 r0_11)) (constant S2048x256 .f32 0x00000000#32) (View.ld x10 r0_12)
  (View.ld x9 r0_13) (View.ld x10 r0_14) (View.ld x9 r0_15) (View.ld x10 r0_16) (View.ld x11 r0_17)) (View.ld x12
  r0_18) (View.ld x13 r0_19) (View.ld x14 r0_20) (View.ld x15 r0_21) (View.ld x16 r0_22)) (k0_pay12 (View.ld x17
  r0_23) (View.ld x18 r0_24) (View.ld x19 r0_25)) (View.ld x20 r0_26) (View.ld x21 r0_22)

/-- The output window's staging buffer after the body: its one store, which covers it. -/
def out0_22
    (x0 : Vec F S2048x8 .i32) (x1 : Vec F S2048x1024 .f32) (x2 : Vec F S8x2048 .bf16) (x3 : Vec F S1024x2560 .bf16)
    (x4 : Vec F S1x2560 .f32) (x5 : Vec F S512x256 .bf16) (x6 : Vec F S1x256 .f32) (x7 : Vec F S256x128 .bf16)
    (x8 : Vec F S1x128 .f32) (x9 : Vec F S4x512x256 .bf16) (x10 : Vec F S4x256 .f32) (x11 : Vec F S1024x128 .bf16)
    (x12 : Vec F S8x128 .bf16) (x13 : Vec F S128x64 .bf16) (x14 : Vec F S1x64 .f32) (x15 : Vec F S64x1 .bf16)
    (x16 : Vec F S1x1 .f32) (x17 : Vec F S8x16 .bf16) (x18 : Vec F S16x32 .bf16) (x19 : Vec F S1x32 .f32)
    (x20 : Vec F S32x1 .bf16) (x21 : Vec F S1x1 .f32) : Vec F S2048x1 .f32 :=
  View.canon [⟨r0_27, payload x0 x1 x2 x3 x4 x5 x6 x7 x8 x9 x10 x11 x12 x13 x14 x15 x16 x17 x18 x19 x20 x21⟩]

/-- The store reaches every entry of the output's staging buffer. -/
theorem cover0_22 (p0 : Vec F S2048x1 .f32) (y : S2048x1.Idx) :
    ∃ pc ∈ ([⟨r0_27, p0⟩] : List (View.Piece (Elt F) S2048x1 .f32)), y ∈ pc.1.set :=
  View.cover_of_tiled [⟨r0_27, p0⟩] S2048x1.size (by rfl) y

set_option maxHeartbeats 1000000 in
/-- The body's triple: it leaves every input's staging buffer as it found it and the output's at `out0_22` of them. -/
theorem sound_kernel (c : Dev nD) (E : Set ℕ) (i : grid0.Coords)
    (arg1 : Memref sig .tc .vmem S2048x8 .i32) (harg1 : arg1.IsWhole)
    (arg2 : Memref sig .tc .vmem S2048x1024 .f32) (harg2 : arg2.IsWhole)
    (arg3 : Memref sig .tc .vmem S8x2048 .bf16) (harg3 : arg3.IsWhole)
    (arg4 : Memref sig .tc .vmem S1024x2560 .bf16) (harg4 : arg4.IsWhole)
    (arg5 : Memref sig .tc .vmem S1x2560 .f32) (harg5 : arg5.IsWhole)
    (arg6 : Memref sig .tc .vmem S512x256 .bf16) (harg6 : arg6.IsWhole)
    (arg7 : Memref sig .tc .vmem S1x256 .f32) (harg7 : arg7.IsWhole)
    (arg8 : Memref sig .tc .vmem S256x128 .bf16) (harg8 : arg8.IsWhole)
    (arg9 : Memref sig .tc .vmem S1x128 .f32) (harg9 : arg9.IsWhole)
    (arg10 : Memref sig .tc .vmem S4x512x256 .bf16) (harg10 : arg10.IsWhole)
    (arg11 : Memref sig .tc .vmem S4x256 .f32) (harg11 : arg11.IsWhole)
    (arg12 : Memref sig .tc .vmem S1024x128 .bf16) (harg12 : arg12.IsWhole)
    (arg13 : Memref sig .tc .vmem S8x128 .bf16) (harg13 : arg13.IsWhole)
    (arg14 : Memref sig .tc .vmem S128x64 .bf16) (harg14 : arg14.IsWhole)
    (arg15 : Memref sig .tc .vmem S1x64 .f32) (harg15 : arg15.IsWhole)
    (arg16 : Memref sig .tc .vmem S64x1 .bf16) (harg16 : arg16.IsWhole)
    (arg17 : Memref sig .tc .vmem S1x1 .f32) (harg17 : arg17.IsWhole)
    (arg18 : Memref sig .tc .vmem S8x16 .bf16) (harg18 : arg18.IsWhole)
    (arg19 : Memref sig .tc .vmem S16x32 .bf16) (harg19 : arg19.IsWhole)
    (arg20 : Memref sig .tc .vmem S1x32 .f32) (harg20 : arg20.IsWhole)
    (arg21 : Memref sig .tc .vmem S32x1 .bf16) (harg21 : arg21.IsWhole)
    (arg22 : Memref sig .tc .vmem S1x1 .f32) (harg22 : arg22.IsWhole)
    (arg23 : Memref sig .tc .vmem S2048x1 .f32) (harg23 : arg23.IsWhole)
    (x0 : Vec F S2048x8 .i32) (x1 : Vec F S2048x1024 .f32) (x2 : Vec F S8x2048 .bf16) (x3 : Vec F S1024x2560 .bf16)
    (x4 : Vec F S1x2560 .f32) (x5 : Vec F S512x256 .bf16) (x6 : Vec F S1x256 .f32) (x7 : Vec F S256x128 .bf16)
    (x8 : Vec F S1x128 .f32) (x9 : Vec F S4x512x256 .bf16) (x10 : Vec F S4x256 .f32) (x11 : Vec F S1024x128 .bf16)
    (x12 : Vec F S8x128 .bf16) (x13 : Vec F S128x64 .bf16) (x14 : Vec F S1x64 .f32) (x15 : Vec F S64x1 .bf16)
    (x16 : Vec F S1x1 .f32) (x17 : Vec F S8x16 .bf16) (x18 : Vec F S16x32 .bf16) (x19 : Vec F S1x32 .f32)
    (x20 : Vec F S32x1 .bf16) (x21 : Vec F S1x1 .f32)
    (K : PUnit → sProp 𝕄) :
    iprop(owns (c : Thread nD τ) arg1 fullShare x0 ∗ owns (c : Thread nD τ) arg2 fullShare x1 ∗
        owns (c : Thread nD τ) arg3 fullShare x2 ∗ owns (c : Thread nD τ) arg4 fullShare x3 ∗
        owns (c : Thread nD τ) arg5 fullShare x4 ∗ owns (c : Thread nD τ) arg6 fullShare x5 ∗
        owns (c : Thread nD τ) arg7 fullShare x6 ∗ owns (c : Thread nD τ) arg8 fullShare x7 ∗
        owns (c : Thread nD τ) arg9 fullShare x8 ∗ owns (c : Thread nD τ) arg10 fullShare x9 ∗
        owns (c : Thread nD τ) arg11 fullShare x10 ∗ owns (c : Thread nD τ) arg12 fullShare x11 ∗
        owns (c : Thread nD τ) arg13 fullShare x12 ∗ owns (c : Thread nD τ) arg14 fullShare x13 ∗
        owns (c : Thread nD τ) arg15 fullShare x14 ∗ owns (c : Thread nD τ) arg16 fullShare x15 ∗
        owns (c : Thread nD τ) arg17 fullShare x16 ∗ owns (c : Thread nD τ) arg18 fullShare x17 ∗
        owns (c : Thread nD τ) arg19 fullShare x18 ∗ owns (c : Thread nD τ) arg20 fullShare x19 ∗
        owns (c : Thread nD τ) arg21 fullShare x20 ∗ owns (c : Thread nD τ) arg22 fullShare x21 ∗
        (∃ d, owns (c : Thread nD τ) arg23 fullShare d) ∗
        (iprop(owns (c : Thread nD τ) arg1 fullShare x0 ∗ owns (c : Thread nD τ) arg2 fullShare x1 ∗
          owns (c : Thread nD τ) arg3 fullShare x2 ∗ owns (c : Thread nD τ) arg4 fullShare x3 ∗
          owns (c : Thread nD τ) arg5 fullShare x4 ∗ owns (c : Thread nD τ) arg6 fullShare x5 ∗
          owns (c : Thread nD τ) arg7 fullShare x6 ∗ owns (c : Thread nD τ) arg8 fullShare x7 ∗
          owns (c : Thread nD τ) arg9 fullShare x8 ∗ owns (c : Thread nD τ) arg10 fullShare x9 ∗
          owns (c : Thread nD τ) arg11 fullShare x10 ∗ owns (c : Thread nD τ) arg12 fullShare x11 ∗
          owns (c : Thread nD τ) arg13 fullShare x12 ∗ owns (c : Thread nD τ) arg14 fullShare x13 ∗
          owns (c : Thread nD τ) arg15 fullShare x14 ∗ owns (c : Thread nD τ) arg16 fullShare x15 ∗
          owns (c : Thread nD τ) arg17 fullShare x16 ∗ owns (c : Thread nD τ) arg18 fullShare x17 ∗
          owns (c : Thread nD τ) arg19 fullShare x18 ∗ owns (c : Thread nD τ) arg20 fullShare x19 ∗
          owns (c : Thread nD τ) arg21 fullShare x20 ∗ owns (c : Thread nD τ) arg22 fullShare x21 ∗
          owns (c : Thread nD τ) arg23 fullShare (out0_22 x0 x1 x2 x3 x4 x5 x6 x7 x8 x9 x10 x11 x12 x13 x14 x15 x16 x17 x18 x19 x20 x21)) -∗ K ⟨⟩))
      ⊢ wp frame (wpE (defs₀ (F := F)) Variants.none c none) E
        (cc0_hc2star_fused i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_hc2star_fused_eq_skeleton]; unfold cc0_hc2star_fused_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, Hk⟩
  subst hf0 hf1 hf2 hf3 hf4 hf5 hf6 hf7 hf8 hf9 hf10 hf11 hf12 hf13 hf14 hf15 hf16 hf17 hf18 hf19 hf20 hf21
  sl_exec
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  isplitl [H7]; · iexists f7; isplitr; (· ipureintro; rfl); iexact H7
  isplitl [H8]; · iexists f8; isplitr; (· ipureintro; rfl); iexact H8
  isplitl [H9]; · iexists f9; isplitr; (· ipureintro; rfl); iexact H9
  isplitl [H10]; · iexists f10; isplitr; (· ipureintro; rfl); iexact H10
  isplitl [H11]; · iexists f11; isplitr; (· ipureintro; rfl); iexact H11
  isplitl [H12]; · iexists f12; isplitr; (· ipureintro; rfl); iexact H12
  isplitl [H13]; · iexists f13; isplitr; (· ipureintro; rfl); iexact H13
  isplitl [H14]; · iexists f14; isplitr; (· ipureintro; rfl); iexact H14
  isplitl [H15]; · iexists f15; isplitr; (· ipureintro; rfl); iexact H15
  isplitl [H16]; · iexists f16; isplitr; (· ipureintro; rfl); iexact H16
  isplitl [H17]; · iexists f17; isplitr; (· ipureintro; rfl); iexact H17
  isplitl [H18]; · iexists f18; isplitr; (· ipureintro; rfl); iexact H18
  isplitl [H19]; · iexists f19; isplitr; (· ipureintro; rfl); iexact H19
  isplitl [H20]; · iexists f20; isplitr; (· ipureintro; rfl); iexact H20
  isplitl [H21]; · iexists f21; isplitr; (· ipureintro; rfl); iexact H21
  iexists _; isplitr
  swap; · iexact H22
  ipureintro
  exact (View.read_writes_eq_canon _ _ _ (cover0_22 _)).trans rfl

/-! ## The proof data of the call -/

/-- The arrays as the call finds them; after the body the inputs' buffers at their blocks and the output's at the
    body's result; full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => out0_22
        (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t)
        (iblk m c 14 t) (iblk m c 15 t) (iblk m c 16 t) (iblk m c 17 t) (iblk m c 18 t) (iblk m c 19 t)
        (iblk m c 20 t) (iblk m c 21 t)
    | ⟨_ + 23, h⟩ => absurd h (Nat.not_lt.2 (Nat.le_add_left _ _))
  Φ _ := Pipeline.ΦA spec0 c
  q _ := fullShare
  owed _ := 0

/-- The arrays of the proof data are those that the call finds. -/
theorem A_eq (c : Dev nD) (w : Fin cfg0.W) : (dats m 0 c).A w = V m c (Pipeline.arrRef spec0 w) := by
  dsimp only [dats]

/-- After the body the output's staging buffer holds the body's result of the inputs' blocks. -/
theorem after0_22 (c : Dev nD) (t : Fin cfg0.N) : (dats m 0 c).after 22 t = out0_22
      (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (iblk m c 15 t) (iblk m c 16 t) (iblk m c 17 t) (iblk m c 18 t) (iblk m c 19 t) (iblk m c 20 t)
      (iblk m c 21 t) := by
  dsimp only [dats]

/-- An input window, whose buffer the body leaves at the block `v`, holds that block before the body at every point. -/
theorem before_block (c : Dev nD) (w : Fin cfg0.W) (v : Fin cfg0.N → (cfg0.win w).block.Idx → Elt F (cfg0.win w).elt)
    (hw : (cfg0.win w).isOut = false) (hl : ∀ i, cfg0.idle w i = false)
    (hc : ∀ t t' : Fin cfg0.N, (cfg0.win w).index t = (cfg0.win w).index t' →
      (cfg0.win w).clip (cfg0.grid.coords t) = (cfg0.win w).clip (cfg0.grid.coords t'))
    (hk : ∀ t, (cfg0.win w).cut (cfg0.grid.coords t) ((dats m 0 c).after w t) = (dats m 0 c).blockOf w t)
    (hf : ∀ t d, (dats m 0 c).fetched w t d = v t) (t : Fin cfg0.N) (d) : (dats m 0 c).before w t d = v t :=
  ((dats m 0 c).before_in_eq_fetched w hw hl hc hk t d).trans (hf t d)

theorem before0_0 (c : Dev nD) (t : Fin cfg0.N) (d) : (dats m 0 c).before 0 t d = iblk m c 0 t :=
  before_block m c 0 (iblk m c 0) rfl (fun _ => rfl) (fun _ _ _ => rfl) (fun _ => by dsimp only [dats, Dat.blockOf]; rfl)
    (fun _ _ => by unfold Dat.fetched Dat.blockOf iblk; rw [A_eq]; rfl) t d
theorem before0_1 (c : Dev nD) (t : Fin cfg0.N) (d) : (dats m 0 c).before 1 t d = iblk m c 1 t :=
  before_block m c 1 (iblk m c 1) rfl (fun _ => rfl) (fun _ _ _ => rfl) (fun _ => by dsimp only [dats, Dat.blockOf]; rfl)
    (fun _ _ => by unfold Dat.fetched Dat.blockOf iblk; rw [A_eq]; rfl) t d
theorem before0_2 (c : Dev nD) (t : Fin cfg0.N) (d) : (dats m 0 c).before 2 t d = iblk m c 2 t :=
  before_block m c 2 (iblk m c 2) rfl (fun _ => rfl) (fun _ _ _ => rfl) (fun _ => by dsimp only [dats, Dat.blockOf]; rfl)
    (fun _ _ => by unfold Dat.fetched Dat.blockOf iblk; rw [A_eq]; rfl) t d
theorem before0_3 (c : Dev nD) (t : Fin cfg0.N) (d) : (dats m 0 c).before 3 t d = iblk m c 3 t :=
  before_block m c 3 (iblk m c 3) rfl (fun _ => rfl) (fun _ _ _ => rfl) (fun _ => by dsimp only [dats, Dat.blockOf]; rfl)
    (fun _ _ => by unfold Dat.fetched Dat.blockOf iblk; rw [A_eq]; rfl) t d
theorem before0_4 (c : Dev nD) (t : Fin cfg0.N) (d) : (dats m 0 c).before 4 t d = iblk m c 4 t :=
  before_block m c 4 (iblk m c 4) rfl (fun _ => rfl) (fun _ _ _ => rfl) (fun _ => by dsimp only [dats, Dat.blockOf]; rfl)
    (fun _ _ => by unfold Dat.fetched Dat.blockOf iblk; rw [A_eq]; rfl) t d
theorem before0_5 (c : Dev nD) (t : Fin cfg0.N) (d) : (dats m 0 c).before 5 t d = iblk m c 5 t :=
  before_block m c 5 (iblk m c 5) rfl (fun _ => rfl) (fun _ _ _ => rfl) (fun _ => by dsimp only [dats, Dat.blockOf]; rfl)
    (fun _ _ => by unfold Dat.fetched Dat.blockOf iblk; rw [A_eq]; rfl) t d
theorem before0_6 (c : Dev nD) (t : Fin cfg0.N) (d) : (dats m 0 c).before 6 t d = iblk m c 6 t :=
  before_block m c 6 (iblk m c 6) rfl (fun _ => rfl) (fun _ _ _ => rfl) (fun _ => by dsimp only [dats, Dat.blockOf]; rfl)
    (fun _ _ => by unfold Dat.fetched Dat.blockOf iblk; rw [A_eq]; rfl) t d
theorem before0_7 (c : Dev nD) (t : Fin cfg0.N) (d) : (dats m 0 c).before 7 t d = iblk m c 7 t :=
  before_block m c 7 (iblk m c 7) rfl (fun _ => rfl) (fun _ _ _ => rfl) (fun _ => by dsimp only [dats, Dat.blockOf]; rfl)
    (fun _ _ => by unfold Dat.fetched Dat.blockOf iblk; rw [A_eq]; rfl) t d
theorem before0_8 (c : Dev nD) (t : Fin cfg0.N) (d) : (dats m 0 c).before 8 t d = iblk m c 8 t :=
  before_block m c 8 (iblk m c 8) rfl (fun _ => rfl) (fun _ _ _ => rfl) (fun _ => by dsimp only [dats, Dat.blockOf]; rfl)
    (fun _ _ => by unfold Dat.fetched Dat.blockOf iblk; rw [A_eq]; rfl) t d
theorem before0_9 (c : Dev nD) (t : Fin cfg0.N) (d) : (dats m 0 c).before 9 t d = iblk m c 9 t :=
  before_block m c 9 (iblk m c 9) rfl (fun _ => rfl) (fun _ _ _ => rfl) (fun _ => by dsimp only [dats, Dat.blockOf]; rfl)
    (fun _ _ => by unfold Dat.fetched Dat.blockOf iblk; rw [A_eq]; rfl) t d
theorem before0_10 (c : Dev nD) (t : Fin cfg0.N) (d) : (dats m 0 c).before 10 t d = iblk m c 10 t :=
  before_block m c 10 (iblk m c 10) rfl (fun _ => rfl) (fun _ _ _ => rfl) (fun _ => by dsimp only [dats, Dat.blockOf]; rfl)
    (fun _ _ => by unfold Dat.fetched Dat.blockOf iblk; rw [A_eq]; rfl) t d
theorem before0_11 (c : Dev nD) (t : Fin cfg0.N) (d) : (dats m 0 c).before 11 t d = iblk m c 11 t :=
  before_block m c 11 (iblk m c 11) rfl (fun _ => rfl) (fun _ _ _ => rfl) (fun _ => by dsimp only [dats, Dat.blockOf]; rfl)
    (fun _ _ => by unfold Dat.fetched Dat.blockOf iblk; rw [A_eq]; rfl) t d
theorem before0_12 (c : Dev nD) (t : Fin cfg0.N) (d) : (dats m 0 c).before 12 t d = iblk m c 12 t :=
  before_block m c 12 (iblk m c 12) rfl (fun _ => rfl) (fun _ _ _ => rfl) (fun _ => by dsimp only [dats, Dat.blockOf]; rfl)
    (fun _ _ => by unfold Dat.fetched Dat.blockOf iblk; rw [A_eq]; rfl) t d
theorem before0_13 (c : Dev nD) (t : Fin cfg0.N) (d) : (dats m 0 c).before 13 t d = iblk m c 13 t :=
  before_block m c 13 (iblk m c 13) rfl (fun _ => rfl) (fun _ _ _ => rfl) (fun _ => by dsimp only [dats, Dat.blockOf]; rfl)
    (fun _ _ => by unfold Dat.fetched Dat.blockOf iblk; rw [A_eq]; rfl) t d
theorem before0_14 (c : Dev nD) (t : Fin cfg0.N) (d) : (dats m 0 c).before 14 t d = iblk m c 14 t :=
  before_block m c 14 (iblk m c 14) rfl (fun _ => rfl) (fun _ _ _ => rfl) (fun _ => by dsimp only [dats, Dat.blockOf]; rfl)
    (fun _ _ => by unfold Dat.fetched Dat.blockOf iblk; rw [A_eq]; rfl) t d
theorem before0_15 (c : Dev nD) (t : Fin cfg0.N) (d) : (dats m 0 c).before 15 t d = iblk m c 15 t :=
  before_block m c 15 (iblk m c 15) rfl (fun _ => rfl) (fun _ _ _ => rfl) (fun _ => by dsimp only [dats, Dat.blockOf]; rfl)
    (fun _ _ => by unfold Dat.fetched Dat.blockOf iblk; rw [A_eq]; rfl) t d
theorem before0_16 (c : Dev nD) (t : Fin cfg0.N) (d) : (dats m 0 c).before 16 t d = iblk m c 16 t :=
  before_block m c 16 (iblk m c 16) rfl (fun _ => rfl) (fun _ _ _ => rfl) (fun _ => by dsimp only [dats, Dat.blockOf]; rfl)
    (fun _ _ => by unfold Dat.fetched Dat.blockOf iblk; rw [A_eq]; rfl) t d
theorem before0_17 (c : Dev nD) (t : Fin cfg0.N) (d) : (dats m 0 c).before 17 t d = iblk m c 17 t :=
  before_block m c 17 (iblk m c 17) rfl (fun _ => rfl) (fun _ _ _ => rfl) (fun _ => by dsimp only [dats, Dat.blockOf]; rfl)
    (fun _ _ => by unfold Dat.fetched Dat.blockOf iblk; rw [A_eq]; rfl) t d
theorem before0_18 (c : Dev nD) (t : Fin cfg0.N) (d) : (dats m 0 c).before 18 t d = iblk m c 18 t :=
  before_block m c 18 (iblk m c 18) rfl (fun _ => rfl) (fun _ _ _ => rfl) (fun _ => by dsimp only [dats, Dat.blockOf]; rfl)
    (fun _ _ => by unfold Dat.fetched Dat.blockOf iblk; rw [A_eq]; rfl) t d
theorem before0_19 (c : Dev nD) (t : Fin cfg0.N) (d) : (dats m 0 c).before 19 t d = iblk m c 19 t :=
  before_block m c 19 (iblk m c 19) rfl (fun _ => rfl) (fun _ _ _ => rfl) (fun _ => by dsimp only [dats, Dat.blockOf]; rfl)
    (fun _ _ => by unfold Dat.fetched Dat.blockOf iblk; rw [A_eq]; rfl) t d
theorem before0_20 (c : Dev nD) (t : Fin cfg0.N) (d) : (dats m 0 c).before 20 t d = iblk m c 20 t :=
  before_block m c 20 (iblk m c 20) rfl (fun _ => rfl) (fun _ _ _ => rfl) (fun _ => by dsimp only [dats, Dat.blockOf]; rfl)
    (fun _ _ => by unfold Dat.fetched Dat.blockOf iblk; rw [A_eq]; rfl) t d
theorem before0_21 (c : Dev nD) (t : Fin cfg0.N) (d) : (dats m 0 c).before 21 t d = iblk m c 21 t :=
  before_block m c 21 (iblk m c 21) rfl (fun _ => rfl) (fun _ _ _ => rfl) (fun _ => by dsimp only [dats, Dat.blockOf]; rfl)
    (fun _ _ => by unfold Dat.fetched Dat.blockOf iblk; rw [A_eq]; rfl) t d

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t))

/-- The body at any point, from what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21]
  rw [show (dats m 0 c).Φ t.succ = (dats m 0 c).Φ t.castSucc from rfl,
    show (dats m 0 c).owesAt () t.succ = (dats m 0 c).owesAt () t.castSucc from rfl, after0_22]
  dsimp only [dats]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (sound_kernel c Set.univ (grid0.coords t) _ _ _ _ _ _ _ _ _ _ _ _ _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t)
    (iblk m c 14 t) (iblk m c 15 t) (iblk m c 16 t) (iblk m c 17 t) (iblk m c 18 t) (iblk m c 19 t) (iblk m c 20 t)
    (iblk m c 21 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexists _; iexact H22
  iintro ⟨H0, H1, H2, H3, H4, H5, H6, H7, H8, H9, H10, H11, H12, H13, H14, H15, H16, H17, H18, H19, H20, H21, H22⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

/-- The body that the call runs at point `t` is the kernel on that point's staging buffers. -/
theorem defs₀_row (t : Fin cfg0.N) : defs₀ (F := F) .tc cfg0.body (cfg0.bodyArgs t (cfg0.slots t)) = bodyAt0 t := by
  unfold defs₀; rw [Defs.onTc_tc]

set_option maxHeartbeats 4000000 in
/-- The pipeline's obligation on the body, at every point. -/
theorem body_obligation (c : Dev nD) : BodyObligation (dats (F := F) m 0 c) (defs₀ (F := F)) Variants.none () Set.univ :=
  fun t => by
    rw [bigSep_W0, bigSep_W0, defs₀_row]
    exact triple_restated (sound_body m c t) rfl .rfl fun _ => .rfl

/-! ## The run -/

set_option backward.isDefEq.respectTransparency.types false in
set_option maxHeartbeats 800000 in
/-- The program runs to its end without fault, with the call's arrays at what the proof data say and every semaphore
    counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

variable {m}

/-- An array that is neither written on the host nor staged by the call ends as it was launched. -/
theorem bypassed (m) {r : PUnit × MemSt nD τ sig (Elt F)} (h : Pipeline.FramePost cfgs (dats m) 0 (V m) r) (c : Dev nD)
    (b : Ref sig .tc) (h1 : b ∉ written) (h2 : b.isScoped = false) (h3 : ∀ w, (spec0 w).arr.view.ref ≠ b) :
    r.2.mem ((c : Thread nD τ).loc b) = m ((c : Thread nD τ).loc b) :=
  ((h c).2 b (Pipeline.mem_restRefs_of b h2 h3)).trans (V_kept m c b h1)

variable (m)

/-- The argument arrays of core `c` are at the end `r` what they were in `m`. -/
abbrev Kept (r : PUnit × MemSt nD τ sig (Elt F)) (c : Dev nD) : Prop :=
  r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20)
    ∧ r.2.mem ((c.tc : Thread nD τ).loc main_arg21) = m ((c.tc : Thread nD τ).loc main_arg21)
    ∧ r.2.mem ((c.tc : Thread nD τ).loc main_arg22) = m ((c.tc : Thread nD τ).loc main_arg22)
    ∧ r.2.mem ((c.tc : Thread nD τ).loc main_arg23) = m ((c.tc : Thread nD τ).loc main_arg23)
    ∧ r.2.mem ((c.tc : Thread nD τ).loc main_arg24) = m ((c.tc : Thread nD τ).loc main_arg24)

/-- A finished run has left the argument arrays as they were. -/
theorem kept_of {r : PUnit × MemSt nD τ sig (Elt F)} (h : Pipeline.FramePost cfgs (dats m) 0 (V m) r) (c : Dev nD) : Kept m r c :=
  ⟨((h c).1 1).trans (((dats m 0 c).arrAt_in 1 rfl _).trans ((A_eq m c 1).trans (V_kept m c main_arg0 (by decide)))),
    bypassed m h c main_arg1 (by decide) (by decide) (by decide),
    bypassed m h c main_arg2 (by decide) (by decide) (by decide),
    bypassed m h c main_arg3 (by decide) (by decide) (by decide),
    bypassed m h c main_arg4 (by decide) (by decide) (by decide),
    bypassed m h c main_arg5 (by decide) (by decide) (by decide),
    bypassed m h c main_arg6 (by decide) (by decide) (by decide),
    bypassed m h c main_arg7 (by decide) (by decide) (by decide),
    bypassed m h c main_arg8 (by decide) (by decide) (by decide),
    bypassed m h c main_arg9 (by decide) (by decide) (by decide),
    bypassed m h c main_arg10 (by decide) (by decide) (by decide),
    bypassed m h c main_arg11 (by decide) (by decide) (by decide),
    bypassed m h c main_arg12 (by decide) (by decide) (by decide),
    ((h c).1 10).trans (((dats m 0 c).arrAt_in 10 rfl _).trans ((A_eq m c 10).trans (V_kept m c main_arg13 (by decide)))),
    bypassed m h c main_arg14 (by decide) (by decide) (by decide),
    bypassed m h c main_arg15 (by decide) (by decide) (by decide),
    bypassed m h c main_arg16 (by decide) (by decide) (by decide),
    bypassed m h c main_arg17 (by decide) (by decide) (by decide),
    bypassed m h c main_arg18 (by decide) (by decide) (by decide),
    bypassed m h c main_arg19 (by decide) (by decide) (by decide),
    bypassed m h c main_arg20 (by decide) (by decide) (by decide),
    bypassed m h c main_arg21 (by decide) (by decide) (by decide),
    bypassed m h c main_arg22 (by decide) (by decide) (by decide),
    bypassed m h c main_arg23 (by decide) (by decide) (by decide),
    bypassed m h c main_arg24 (by decide) (by decide) (by decide)⟩

/-- The frame: every run ends without fault, leaves the argument arrays unchanged and every semaphore counter at zero. -/
theorem frame : θ_run defs (onTc (τ := τ) (main (F := F))) ⟨m, fun _ => 0, ρ⟩
    (fun r => (∀ c : Dev nD, Kept m r c) ∧ r.2.sem = fun _ => 0) :=
  (θ_run defs _ _).mono (fun _ h => ⟨kept_of m h.1, h.2⟩) (run_main_quiescent m ρ)

/-- The run with the result named: the array that the call writes, block by block, and the arguments unchanged. -/
theorem run_result : θ_run defs (onTc (τ := τ) (main (F := F))) ⟨m, fun _ => 0, ρ⟩
    (fun r => ∀ c : Dev nD, r.2.mem ((c : Thread nD τ).loc main_v52) = (dats m 0 c).arrAt 22 cfg0.N ∧ Kept m r c) :=
  (θ_run defs _ _).mono (fun _ h c => ⟨(h.1 c).1 22, kept_of m h.1 c⟩) (run_main_quiescent m ρ)

end Cert.KernelIdeal.Body

end
-- ==== Proof.KernelRow.lean ====
module

public import proofs.«01_k».proof.Proof.KernelHead
public import proofs.«01_k».proof.Proof.KernelIdealFrame

/-!
The block program's rows, fourth part: when the blocks hold the weights and a row's features, what one grid point leaves
for that row is the row's score.
-/

@[expose] public section

set_option maxRecDepth 16384

noncomputable section

open Idealize.ShloMosaic Idealize.ShloMosaic.TcCoe Idealize.SL.Sem

namespace Cert.KernelIdeal.Row

open Cert.KernelIdeal Cert.KernelIdeal.Gen Cert.KernelIdeal.Body Cert.Score

variable (x0 : IVec S2048x8 32) (x1 : FVec Ideal S2048x1024 .f32) (x2 : FVec Ideal S8x2048 .bf16)
  (x3 : FVec Ideal S1024x2560 .bf16) (x4 : FVec Ideal S1x2560 .f32) (x5 : FVec Ideal S512x256 .bf16)
  (x6 : FVec Ideal S1x256 .f32) (x7 : FVec Ideal S256x128 .bf16) (x8 : FVec Ideal S1x128 .f32)
  (x9 : FVec Ideal S4x512x256 .bf16) (x10 : FVec Ideal S4x256 .f32) (x11 : FVec Ideal S1024x128 .bf16)
  (x12 : FVec Ideal S8x128 .bf16) (x13 : FVec Ideal S128x64 .bf16) (x14 : FVec Ideal S1x64 .f32)
  (x15 : FVec Ideal S64x1 .bf16) (x16 : FVec Ideal S1x1 .f32) (x17 : FVec Ideal S8x16 .bf16)
  (x18 : FVec Ideal S16x32 .bf16) (x19 : FVec Ideal S1x32 .f32) (x20 : FVec Ideal S32x1 .bf16)
  (x21 : FVec Ideal S1x1 .f32)

/-- The blocks of the first layers hold the weights: the shared layer's columns, then every domain's. -/
structure HoldsFirst (w : Weights) : Prop where
  gain : ∀ e (k : Fin 1024), x2 (ix2 (wide e) ⟨k.val, by omega⟩) = w.gain e k
  shift : ∀ e (k : Fin 1024), x2 (ix2 (wide e) ⟨1024 + k.val, by omega⟩) = w.shift e k
  cW1 : ∀ k (j : Fin 512), x3 (ix2 k ⟨j.val, by omega⟩) = w.cW1 k j
  cb1 : ∀ j : Fin 512, x4 (ix2 0 ⟨j.val, by omega⟩) = w.cb1 j
  dW1 : ∀ (e : Fin 4) k (j : Fin 512), x3 (ix2 k ⟨512 + 512 * e.val + j.val, by omega⟩) = w.dW1 e k j
  db1 : ∀ (e : Fin 4) (j : Fin 512), x4 (ix2 0 ⟨512 + 512 * e.val + j.val, by omega⟩) = w.db1 e j

/-- The blocks of the later layers of the branches hold the weights. -/
structure HoldsBranch (w : Weights) : Prop where
  cW2 : ∀ k j, x5 (ix2 k j) = w.cW2 k j
  cb2 : ∀ j, x6 (ix2 0 j) = w.cb2 j
  cW3 : ∀ k j, x7 (ix2 k j) = w.cW3 k j
  cb3 : ∀ j, x8 (ix2 0 j) = w.cb3 j
  dW2 : ∀ e k j, x9 (ix3 e k j) = w.dW2 e k j
  db2 : ∀ e j, x10 (ix2 e j) = w.db2 e j
  dW3 : ∀ e k j, x11 (ix2 (cell e k) j) = w.dW3 e k j
  db3 : ∀ e j, x12 (ix2 (wide e) j) = w.db3 e j

/-- The blocks of the head and of the embeddings hold the weights. -/
structure HoldsHead (w : Weights) : Prop where
  fW1 : ∀ k j, x13 (ix2 k j) = w.fW1 k j
  fb1 : ∀ j, x14 (ix2 0 j) = w.fb1 j
  fW2 : ∀ k j, x15 (ix2 k j) = w.fW2 k j
  fb2 : ∀ j, x16 (ix2 0 j) = w.fb2 j
  emb : ∀ e k, x17 (ix2 (wide e) k) = w.emb e k
  aW1 : ∀ k j, x18 (ix2 k j) = w.aW1 k j
  ab1 : ∀ j, x19 (ix2 0 j) = w.ab1 j
  aW2 : ∀ k j, x20 (ix2 k j) = w.aW2 k j
  ab2 : ∀ j, x21 (ix2 0 j) = w.ab2 j

variable (w : Weights) (hF : HoldsFirst x2 x3 x4 w) (hB : HoldsBranch x5 x6 x7 x8 x9 x10 x11 x12 w)
  (hH : HoldsHead x13 x14 x15 x16 x17 x18 x19 x20 x21 w) (r : Fin 2048) (d : Fin 4) (x : Fin 1024 → EReal)
  (hid : ∀ k, x0 (ix2 r k) = BitVec.ofNat 32 d.val) (hx : ∀ k, x1 (ix2 r k) = x k)

section
include hF hid hx

/-- The shared first layer among the columns. -/
theorem first_shared (j : Fin 512) :
    max (k0_pay4 (F := Ideal) x1 x0 x2 x3 x4 (ix2 r ⟨j.val, by omega⟩)) 0
      = layer (normed x (w.gain d) (w.shift d)) w.cW1 w.cb1 j := by
  rw [first_at x0 r d hid]
  simp only [dense, layer, hx, hF.gain, hF.shift, hF.cW1, hF.cb1]

/-- The first layer of domain `e` among the columns. -/
theorem first_own (e : Fin 4) (j : Fin 512) :
    max (k0_pay4 (F := Ideal) x1 x0 x2 x3 x4 (ix2 r ⟨512 + 512 * e.val + j.val, by omega⟩)) 0
      = layer (normed x (w.gain d) (w.shift d)) (w.dW1 e) (w.db1 e) j := by
  rw [first_at x0 r d hid]
  simp only [dense, layer, hx, hF.gain, hF.shift, hF.dW1, hF.db1]

end

/-- The output's staging buffer is the column that the point stores. -/
theorem out_payload (y : S2048x1.Idx) :
    out0_22 (F := Ideal) x0 x1 x2 x3 x4 x5 x6 x7 x8 x9 x10 x11 x12 x13 x14 x15 x16 x17 x18 x19 x20 x21 y
      = payload (F := Ideal) x0 x1 x2 x3 x4 x5 x6 x7 x8 x9 x10 x11 x12 x13 x14 x15 x16 x17 x18 x19 x20 x21 y := by
  unfold out0_22
  frame_out

/-- Reading one domain's weight matrix out of the four. -/
theorem slab_at (b : Fin 3 → ℕ) (hb : ∀ i, b i + S1x512x256.size i ≤ S4x512x256.size i) (e : Fin 4) (h0 : b 0 = e.val)
    (h1 : b 1 = 0) (h2 : b 2 = 0) (k : Fin 512) (j : Fin 256) :
    View.ld (Val := Elt Ideal) (e' := .bf16) x9 (Rect.unit (s := S4x512x256) b S1x512x256.size hb) (ix3 0 k j) = x9 (ix3 e k j) := by
  refine congrArg x9 (funext fun i => Fin.ext ?_)
  match i with
  | 0 => show b 0 + 1 * 0 = e.val; omega
  | 1 => show b 1 + 1 * k.val = k.val; omega
  | 2 => show b 2 + 1 * j.val = j.val; omega

/-- Reading one domain's bias out of the four. -/
theorem bias_at (b : Fin 2 → ℕ) (hb : ∀ i, b i + S1x256.size i ≤ S4x256.size i) (e : Fin 4) (h0 : b 0 = e.val)
    (h1 : b 1 = 0) (j : Fin 256) :
    View.ld (Val := Elt Ideal) (e' := .f32) x10 (Rect.unit (s := S4x256) b S1x256.size hb) (ix2 0 j) = x10 (ix2 e j) := by
  refine congrArg x10 (funext fun i => Fin.ext ?_)
  match i with
  | 0 => show b 0 + 1 * 0 = e.val; omega
  | 1 => show b 1 + 1 * j.val = j.val; omega

/-- Taking the leading axis of length one off a matrix. -/
theorem flat_at (y : FVec Ideal S1x512x256 .bf16) (k : Fin 512) (j : Fin 256) :
    k0_pay9 (F := Ideal) y (ix2 k j) = y (ix3 0 k j) := by
  pointwise [k0_pay9]

include hF hB hH hid hx

/-- What one grid point leaves for the row is the row's score. -/
theorem score_at (e : Fin 1) :
    out0_22 (F := Ideal) x0 x1 x2 x3 x4 x5 x6 x7 x8 x9 x10 x11 x12 x13 x14 x15 x16 x17 x18 x19 x20 x21 (ix2 r e)
      = score w x d := by
  have hs := first_shared x0 x1 x2 x3 x4 w hF r d x hid hx
  have ho := first_own x0 x1 x2 x3 x4 w hF r d x hid hx
  rw [out_payload]
  unfold payload
  frame_out
  rw [squash_at r d _ (hot_at' x0 r d hid), head_at r d _ (hot_at' x0 r d hid)]
  unfold score
  simp only [hH.fW1, hH.fb1, hH.fW2, hH.fb2, hH.emb, hH.aW1, hH.ab1, hH.aW2, hH.ab2]
  congr 3
  · funext j
    rw [shared_at r _ (fun j => k0_pay4 (F := Ideal) x1 x0 x2 x3 x4 (ix2 r j)) (fun _ => rfl)]
    simp only [hs, hB.cW2, hB.cb2, hB.cW3, hB.cb3]
    rfl
  · funext j
    rw [third_at r d _ (hot_at x0 r d hid) _
        (fun j => max (k0_pay4 (F := Ideal) x1 x0 x2 x3 x4 (ix2 r j)) 0) (pos_at r _ _ fun _ => rfl)
        (fun e => layer (layer (normed x (w.gain d) (w.shift d)) (w.dW1 e) (w.db1 e)) (w.dW2 e) (w.db2 e)) w.dW2 w.db2
        (fun e => by simp only [ho])
        _ (fun j => ?_) _ (first1_at r _ _ fun _ => rfl) _ (fun k j => ?_) _ (fun j => ?_) _ (fun k j => ?_) _ (fun j => ?_)
        _ (fun k j => ?_) _ (fun j => ?_)]
    · simp only [hB.dW3, hB.db3]
      rfl
    · rw [second0_at r d _ (fun j => k0_pay4 (F := Ideal) x1 x0 x2 x3 x4 (ix2 r j)) (fun _ => rfl) _ (hot_at x0 r d hid)]
      simp only [slab_at x9 ![0, 0, 0] _ 0 rfl rfl rfl, bias_at x10 ![0, 0] _ 0 rfl rfl, hB.dW2, hB.db2]
      exact congrArg (fun g => hot d 0 * layer g (w.dW2 0) (w.db2 0) j) (funext fun k => ho 0 k)
    · rw [flat_at, slab_at x9 _ _ 1 rfl rfl rfl, hB.dW2]
    · rw [bias_at x10 _ _ 1 rfl rfl, hB.db2]
    · rw [slab_at x9 _ _ 2 rfl rfl rfl, hB.dW2]
    · rw [bias_at x10 _ _ 2 rfl rfl, hB.db2]
    · rw [slab_at x9 _ _ 3 rfl rfl rfl, hB.dW2]
    · rw [bias_at x10 _ _ 3 rfl rfl, hB.db2]

end Cert.KernelIdeal.Row
-- ==== Proof.KernelHost.lean ====
module

public import proofs.«01_k».proof.Proof.KernelRow
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem

namespace Cert.KernelIdeal.Row

open Cert.KernelIdeal Cert.KernelIdeal.Gen Cert.KernelIdeal.Body Cert.Score

/-! What the buffers that the launch reads hold, when the host's lines have run. -/

variable (m : (ℓ : Loc nD τ sig) → Buf (Elt Ideal) ℓ) (c : Dev nD)

/-- There are four domains. -/
theorem quarter (e : Fin 4) : e.val = 0 ∨ e.val = 1 ∨ e.val = 2 ∨ e.val = 3 := by omega

/-- The ids lie in every column of the array that the kernel reads. -/
theorem ids_host (r : Fin 16384) (j : Fin 8) :
    V m c main_v1 (ix2 r j) = m ((c : Thread nD τ).loc main_arg1) (ix1 r) := by
  unfold V
  after_reads_at

/-- The gains lie in the first half of the columns. -/
theorem gain_host (e : Fin 4) (k : Fin 1024) :
    V m c main_v4 (ix2 (wide e) ⟨k.val, by omega⟩) = m ((c : Thread nD τ).loc main_arg2) (ix2 e k) := by
  unfold V
  after_reads_at
  refine (dif_pos (by omega)).trans ?_
  after_reads_at

/-- The shifts lie in the second half of the columns. -/
theorem shift_host (e : Fin 4) (k : Fin 1024) :
    V m c main_v4 (ix2 (wide e) ⟨1024 + k.val, by omega⟩) = m ((c : Thread nD τ).loc main_arg3) (ix2 e k) := by
  unfold V
  after_reads_at
  refine (dif_pos (by omega)).trans ?_
  after_reads_at

/-- The shared weights of the first layer lie in the first columns. -/
theorem cW1_host (k : Fin 1024) (j : Fin 512) :
    V m c main_v16 (ix2 k ⟨j.val, by omega⟩) = m ((c : Thread nD τ).loc main_arg4) (ix2 k j) := by
  unfold V
  after_reads_at
  after_reads_at

/-- The shared bias of the first layer lies in the first columns. -/
theorem cb1_host (j : Fin 512) :
    V m c main_v26 (ix2 (0 : Fin 1) ⟨j.val, by omega⟩) = m ((c : Thread nD τ).loc main_arg5) (ix1 j) := by
  unfold V
  after_reads_at
  after_reads_at

/-- The weights of the first layers of the domains follow, domain by domain. -/
theorem dW1_host (e : Fin 4) (k : Fin 1024) (j : Fin 512) :
    V m c main_v16 (ix2 k ⟨512 + 512 * e.val + j.val, by omega⟩) = m ((c : Thread nD τ).loc main_arg10) (ix3 e k j) := by
  unfold V
  after_reads_at
  have hj := j.isLt
  refine (dif_neg (by omega)).trans ?_
  rcases quarter e with he | he | he | he
  · refine (dif_pos (by omega)).trans ?_
    after_reads_at
    exact congrArg₂ (fun a b => m ((c : Thread nD τ).loc main_arg10) (ix3 a k b)) (Fin.ext he.symm) (Fin.ext (by dsimp only; omega))
  · refine (dif_neg (by omega)).trans <| (dif_pos (by omega)).trans ?_
    after_reads_at
    exact congrArg₂ (fun a b => m ((c : Thread nD τ).loc main_arg10) (ix3 a k b)) (Fin.ext he.symm) (Fin.ext (by dsimp only; omega))
  · refine (dif_neg (by omega)).trans <| (dif_neg (by omega)).trans <| (dif_pos (by omega)).trans ?_
    after_reads_at
    exact congrArg₂ (fun a b => m ((c : Thread nD τ).loc main_arg10) (ix3 a k b)) (Fin.ext he.symm) (Fin.ext (by dsimp only; omega))
  · refine (dif_neg (by omega)).trans <| (dif_neg (by omega)).trans <| (dif_neg (by omega)).trans ?_
    after_reads_at
    exact congrArg₂ (fun a b => m ((c : Thread nD τ).loc main_arg10) (ix3 a k b)) (Fin.ext he.symm) (Fin.ext (by dsimp only; omega))

/-- The biases of the first layers of the domains follow, domain by domain. -/
theorem db1_host (e : Fin 4) (j : Fin 512) :
    V m c main_v26 (ix2 (0 : Fin 1) ⟨512 + 512 * e.val + j.val, by omega⟩) = m ((c : Thread nD τ).loc main_arg11) (ix2 e j) := by
  unfold V
  after_reads_at
  have hj := j.isLt
  refine (dif_neg (by omega)).trans ?_
  rcases quarter e with he | he | he | he
  · refine (dif_pos (by omega)).trans ?_
    after_reads_at
    exact congrArg₂ (fun a b => m ((c : Thread nD τ).loc main_arg11) (ix2 a b)) (Fin.ext he.symm) (Fin.ext (by dsimp only; omega))
  · refine (dif_neg (by omega)).trans <| (dif_pos (by omega)).trans ?_
    after_reads_at
    exact congrArg₂ (fun a b => m ((c : Thread nD τ).loc main_arg11) (ix2 a b)) (Fin.ext he.symm) (Fin.ext (by dsimp only; omega))
  · refine (dif_neg (by omega)).trans <| (dif_neg (by omega)).trans <| (dif_pos (by omega)).trans ?_
    after_reads_at
    exact congrArg₂ (fun a b => m ((c : Thread nD τ).loc main_arg11) (ix2 a b)) (Fin.ext he.symm) (Fin.ext (by dsimp only; omega))
  · refine (dif_neg (by omega)).trans <| (dif_neg (by omega)).trans <| (dif_neg (by omega)).trans ?_
    after_reads_at
    exact congrArg₂ (fun a b => m ((c : Thread nD τ).loc main_arg11) (ix2 a b)) (Fin.ext he.symm) (Fin.ext (by dsimp only; omega))

/-- The weights of the last layers of the domains lie under each other. -/
theorem dW3_host (e : Fin 4) (k : Fin 256) (j : Fin 128) :
    V m c main_v36 (ix2 (cell e k) j) = m ((c : Thread nD τ).loc main_arg14) (ix3 e k j) := by
  unfold V cell
  after_reads_at
  have hj := k.isLt
  rcases quarter e with he | he | he | he
  · refine (dif_pos (by omega)).trans ?_
    after_reads_at
    exact congrArg₂ (fun a b => m ((c : Thread nD τ).loc main_arg14) (ix3 a b j)) (Fin.ext he.symm) (Fin.ext (by dsimp only; omega))
  · refine (dif_neg (by omega)).trans <| (dif_pos (by omega)).trans ?_
    after_reads_at
    exact congrArg₂ (fun a b => m ((c : Thread nD τ).loc main_arg14) (ix3 a b j)) (Fin.ext he.symm) (Fin.ext (by dsimp only; omega))
  · refine (dif_neg (by omega)).trans <| (dif_neg (by omega)).trans <| (dif_pos (by omega)).trans ?_
    after_reads_at
    exact congrArg₂ (fun a b => m ((c : Thread nD τ).loc main_arg14) (ix3 a b j)) (Fin.ext he.symm) (Fin.ext (by dsimp only; omega))
  · refine (dif_neg (by omega)).trans <| (dif_neg (by omega)).trans <| (dif_neg (by omega)).trans ?_
    after_reads_at
    exact congrArg₂ (fun a b => m ((c : Thread nD τ).loc main_arg14) (ix3 a b j)) (Fin.ext he.symm) (Fin.ext (by dsimp only; omega))

/-- The shared weights of the second layer. -/
theorem cW2_host (k : Fin 512) (j : Fin 256) : V m c main_v39 (ix2 k j) = m ((c : Thread nD τ).loc main_arg6) (ix2 k j) := by
  unfold V
  after_reads_at

/-- The shared bias of the second layer. -/
theorem cb2_host (j : Fin 256) : V m c main_v40 (ix2 (0 : Fin 1) j) = m ((c : Thread nD τ).loc main_arg7) (ix1 j) := by
  unfold V
  after_reads_at

/-- The shared weights of the third layer. -/
theorem cW3_host (k : Fin 256) (j : Fin 128) : V m c main_v41 (ix2 k j) = m ((c : Thread nD τ).loc main_arg8) (ix2 k j) := by
  unfold V
  after_reads_at

/-- The shared bias of the third layer. -/
theorem cb3_host (j : Fin 128) : V m c main_v42 (ix2 (0 : Fin 1) j) = m ((c : Thread nD τ).loc main_arg9) (ix1 j) := by
  unfold V
  after_reads_at

/-- The weights of the second layers of the domains. -/
theorem dW2_host (e : Fin 4) (k : Fin 512) (j : Fin 256) : V m c main_v43 (ix3 e k j) = m ((c : Thread nD τ).loc main_arg12) (ix3 e k j) := by
  unfold V
  after_reads_at

/-- The biases of the last layers of the domains lie in the first rows. -/
theorem db3_host (e : Fin 4) (j : Fin 128) : V m c main_v38 (ix2 (wide e) j) = m ((c : Thread nD τ).loc main_arg15) (ix2 e j) := by
  unfold V
  after_reads_at

/-- The weights of the head's first layer. -/
theorem fW1_host (k : Fin 128) (j : Fin 64) : V m c main_v44 (ix2 k j) = m ((c : Thread nD τ).loc main_arg16) (ix2 k j) := by
  unfold V
  after_reads_at

/-- The bias of the head's first layer. -/
theorem fb1_host (j : Fin 64) : V m c main_v45 (ix2 (0 : Fin 1) j) = m ((c : Thread nD τ).loc main_arg17) (ix1 j) := by
  unfold V
  after_reads_at

/-- The weights of the head's second layer. -/
theorem fW2_host (k : Fin 64) (j : Fin 1) : V m c main_v46 (ix2 k j) = m ((c : Thread nD τ).loc main_arg18) (ix2 k j) := by
  unfold V
  after_reads_at

/-- The bias of the head's second layer. -/
theorem fb2_host (j : Fin 1) : V m c main_v47 (ix2 (0 : Fin 1) j) = m ((c : Thread nD τ).loc main_arg19) (ix1 j) := by
  unfold V
  after_reads_at
  exact congrArg (m ((c : Thread nD τ).loc main_arg19)) (congrArg ix1 (Subsingleton.elim _ _))

/-- The embeddings lie in the first rows. -/
theorem emb_host (e : Fin 4) (k : Fin 16) : V m c main_v6 (ix2 (wide e) k) = m ((c : Thread nD τ).loc main_arg20) (ix2 e k) := by
  unfold V
  after_reads_at

/-- The weights of the embedding's first layer. -/
theorem aW1_host (k : Fin 16) (j : Fin 32) : V m c main_v48 (ix2 k j) = m ((c : Thread nD τ).loc main_arg21) (ix2 k j) := by
  unfold V
  after_reads_at

/-- The bias of the embedding's first layer. -/
theorem ab1_host (j : Fin 32) : V m c main_v49 (ix2 (0 : Fin 1) j) = m ((c : Thread nD τ).loc main_arg22) (ix1 j) := by
  unfold V
  after_reads_at

/-- The weights of the embedding's second layer. -/
theorem aW2_host (k : Fin 32) (j : Fin 1) : V m c main_v50 (ix2 k j) = m ((c : Thread nD τ).loc main_arg23) (ix2 k j) := by
  unfold V
  after_reads_at

/-- The bias of the embedding's second layer. -/
theorem ab2_host (j : Fin 1) : V m c main_v51 (ix2 (0 : Fin 1) j) = m ((c : Thread nD τ).loc main_arg24) (ix1 j) := by
  unfold V
  after_reads_at
  exact congrArg (m ((c : Thread nD τ).loc main_arg24)) (congrArg ix1 (Subsingleton.elim _ _))

end Cert.KernelIdeal.Row
-- ==== Proof.KernelBlocks.lean ====
module

public import proofs.«01_k».proof.Proof.KernelHost

@[expose] public section

set_option maxRecDepth 16384

noncomputable section

open Idealize.ShloMosaic Idealize.ShloMosaic.TcCoe Idealize.SL.Sem

namespace Cert.KernelIdeal.Row

open Cert.KernelIdeal Cert.KernelIdeal.Gen Cert.KernelIdeal.Body Cert.Score

/-! What the blocks of a grid point hold, as entries of the arguments. -/

variable (m : (ℓ : Loc nD τ sig) → Buf (Elt Ideal) ℓ) (c : Dev nD)

/-- The windows of the ids, of the rows and of the results move one block a point. -/
theorem moves : ∀ t : Fin cfg0.N,
    win0_0.index t = ![t.val, 0] ∧ win0_1.index t = ![t.val, 0] ∧ win0_22.index t = ![t.val, 0] :=
  (by decide +kernel : ∀ t : Fin grid0.N, _)

/-- The windows of the weights of the first layers stay in place. -/
theorem still_first : ∀ t : Fin cfg0.N,
    win0_2.index t = ![0, 0] ∧
    win0_3.index t = ![0, 0] ∧
    win0_4.index t = ![0, 0] :=
  (by decide +kernel : ∀ t : Fin grid0.N, _)

/-- The windows of the weights of the later layers stay in place. -/
theorem still_branch : ∀ t : Fin cfg0.N,
    win0_5.index t = ![0, 0] ∧
    win0_6.index t = ![0, 0] ∧
    win0_7.index t = ![0, 0] ∧
    win0_8.index t = ![0, 0] ∧
    win0_9.index t = ![0, 0, 0] ∧
    win0_10.index t = ![0, 0] ∧
    win0_11.index t = ![0, 0] ∧
    win0_12.index t = ![0, 0] :=
  (by decide +kernel : ∀ t : Fin grid0.N, _)

/-- The windows of the weights of the head stay in place. -/
theorem still_head : ∀ t : Fin cfg0.N,
    win0_13.index t = ![0, 0] ∧
    win0_14.index t = ![0, 0] ∧
    win0_15.index t = ![0, 0] ∧
    win0_16.index t = ![0, 0] ∧
    win0_17.index t = ![0, 0] ∧
    win0_18.index t = ![0, 0] ∧
    win0_19.index t = ![0, 0] ∧
    win0_20.index t = ![0, 0] ∧
    win0_21.index t = ![0, 0] :=
  (by decide +kernel : ∀ t : Fin grid0.N, _)

/-- A grid point is one of eight. -/
theorem point_lt (t : Fin cfg0.N) : t.val < 8 := t.isLt

/-- Row `r` of grid point `t` is this row of the arrays. -/
def row (t : Fin cfg0.N) (r : Fin 2048) : Fin 16384 := ⟨t.val * 2048 + r.val, by have := point_lt t; omega⟩

/-- The block of ids holds the ids of the point's rows. -/
theorem ids_block (t : Fin cfg0.N) (r : Fin 2048) (j : Fin 8) :
    iblk m c 0 t (ix2 r j) = m ((c : Thread nD τ).loc main_arg1) (ix1 (row t r)) := by
  refine Eq.trans ?_ (ids_host m c (row t r) j)
  unfold row
  blk_ext [iblk, moves t]

/-- The block of rows holds the point's rows. -/
theorem rows_block (t : Fin cfg0.N) (r : Fin 2048) (k : Fin 1024) :
    iblk m c 1 t (ix2 r k) = m ((c : Thread nD τ).loc main_arg0) (ix2 (row t r) k) := by
  refine Eq.trans ?_ (congrFun (V_kept m c main_arg0 (by decide)) _)
  unfold row
  blk_ext [iblk, moves t]

/-- The block of window 2 is the whole array. -/
theorem whole2 (t : Fin cfg0.N) (a : Fin 8) (b : Fin 2048) : iblk m c 2 t (ix2 a b) = V m c main_v4 (ix2 a b) := by
  blk_ext [iblk, still_first t]

/-- The block of window 3 is the whole array. -/
theorem whole3 (t : Fin cfg0.N) (a : Fin 1024) (b : Fin 2560) : iblk m c 3 t (ix2 a b) = V m c main_v16 (ix2 a b) := by
  blk_ext [iblk, still_first t]

/-- The block of window 4 is the whole array. -/
theorem whole4 (t : Fin cfg0.N) (a : Fin 1) (b : Fin 2560) : iblk m c 4 t (ix2 a b) = V m c main_v26 (ix2 a b) := by
  blk_ext [iblk, still_first t]

/-- The block of window 5 is the whole array. -/
theorem whole5 (t : Fin cfg0.N) (a : Fin 512) (b : Fin 256) : iblk m c 5 t (ix2 a b) = V m c main_v39 (ix2 a b) := by
  blk_ext [iblk, still_branch t]

/-- The block of window 6 is the whole array. -/
theorem whole6 (t : Fin cfg0.N) (a : Fin 1) (b : Fin 256) : iblk m c 6 t (ix2 a b) = V m c main_v40 (ix2 a b) := by
  blk_ext [iblk, still_branch t]

/-- The block of window 7 is the whole array. -/
theorem whole7 (t : Fin cfg0.N) (a : Fin 256) (b : Fin 128) : iblk m c 7 t (ix2 a b) = V m c main_v41 (ix2 a b) := by
  blk_ext [iblk, still_branch t]

/-- The block of window 8 is the whole array. -/
theorem whole8 (t : Fin cfg0.N) (a : Fin 1) (b : Fin 128) : iblk m c 8 t (ix2 a b) = V m c main_v42 (ix2 a b) := by
  blk_ext [iblk, still_branch t]

/-- The block of window 9 is the whole array. -/
theorem whole9 (t : Fin cfg0.N) (e : Fin 4) (a : Fin 512) (b : Fin 256) : iblk m c 9 t (ix3 e a b) = V m c main_v43 (ix3 e a b) := by
  blk_ext [iblk, still_branch t]

/-- The block of window 10 is the whole array. -/
theorem whole10 (t : Fin cfg0.N) (a : Fin 4) (b : Fin 256) : iblk m c 10 t (ix2 a b) = V m c main_arg13 (ix2 a b) := by
  blk_ext [iblk, still_branch t]

/-- The block of window 11 is the whole array. -/
theorem whole11 (t : Fin cfg0.N) (a : Fin 1024) (b : Fin 128) : iblk m c 11 t (ix2 a b) = V m c main_v36 (ix2 a b) := by
  blk_ext [iblk, still_branch t]

/-- The block of window 12 is the whole array. -/
theorem whole12 (t : Fin cfg0.N) (a : Fin 8) (b : Fin 128) : iblk m c 12 t (ix2 a b) = V m c main_v38 (ix2 a b) := by
  blk_ext [iblk, still_branch t]

/-- The block of window 13 is the whole array. -/
theorem whole13 (t : Fin cfg0.N) (a : Fin 128) (b : Fin 64) : iblk m c 13 t (ix2 a b) = V m c main_v44 (ix2 a b) := by
  blk_ext [iblk, still_head t]

/-- The block of window 14 is the whole array. -/
theorem whole14 (t : Fin cfg0.N) (a : Fin 1) (b : Fin 64) : iblk m c 14 t (ix2 a b) = V m c main_v45 (ix2 a b) := by
  blk_ext [iblk, still_head t]

/-- The block of window 15 is the whole array. -/
theorem whole15 (t : Fin cfg0.N) (a : Fin 64) (b : Fin 1) : iblk m c 15 t (ix2 a b) = V m c main_v46 (ix2 a b) := by
  blk_ext [iblk, still_head t]

/-- The block of window 16 is the whole array. -/
theorem whole16 (t : Fin cfg0.N) (a : Fin 1) (b : Fin 1) : iblk m c 16 t (ix2 a b) = V m c main_v47 (ix2 a b) := by
  blk_ext [iblk, still_head t]

/-- The block of window 17 is the whole array. -/
theorem whole17 (t : Fin cfg0.N) (a : Fin 8) (b : Fin 16) : iblk m c 17 t (ix2 a b) = V m c main_v6 (ix2 a b) := by
  blk_ext [iblk, still_head t]

/-- The block of window 18 is the whole array. -/
theorem whole18 (t : Fin cfg0.N) (a : Fin 16) (b : Fin 32) : iblk m c 18 t (ix2 a b) = V m c main_v48 (ix2 a b) := by
  blk_ext [iblk, still_head t]

/-- The block of window 19 is the whole array. -/
theorem whole19 (t : Fin cfg0.N) (a : Fin 1) (b : Fin 32) : iblk m c 19 t (ix2 a b) = V m c main_v49 (ix2 a b) := by
  blk_ext [iblk, still_head t]

/-- The block of window 20 is the whole array. -/
theorem whole20 (t : Fin cfg0.N) (a : Fin 32) (b : Fin 1) : iblk m c 20 t (ix2 a b) = V m c main_v50 (ix2 a b) := by
  blk_ext [iblk, still_head t]

/-- The block of window 21 is the whole array. -/
theorem whole21 (t : Fin cfg0.N) (a : Fin 1) (b : Fin 1) : iblk m c 21 t (ix2 a b) = V m c main_v51 (ix2 a b) := by
  blk_ext [iblk, still_head t]

/-- The weights that the arguments of core `c` hold. -/
def given : Weights :=
  weights (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))
    (m ((c : Thread nD τ).loc main_arg14)) (m ((c : Thread nD τ).loc main_arg15)) (m ((c : Thread nD τ).loc main_arg16))
    (m ((c : Thread nD τ).loc main_arg17)) (m ((c : Thread nD τ).loc main_arg18)) (m ((c : Thread nD τ).loc main_arg19))
    (m ((c : Thread nD τ).loc main_arg20)) (m ((c : Thread nD τ).loc main_arg21)) (m ((c : Thread nD τ).loc main_arg22))
    (m ((c : Thread nD τ).loc main_arg23)) (m ((c : Thread nD τ).loc main_arg24))

/-- The blocks of the norm and of the first layers hold the weights. -/
theorem holds_first (t : Fin cfg0.N) : HoldsFirst (iblk m c 2 t) (iblk m c 3 t) (iblk m c 4 t) (given m c) where
  gain e k := (whole2 m c t _ _).trans (gain_host m c e k)
  shift e k := (whole2 m c t _ _).trans (shift_host m c e k)
  cW1 k j := (whole3 m c t _ _).trans (cW1_host m c k j)
  cb1 j := (whole4 m c t _ _).trans (cb1_host m c j)
  dW1 e k j := (whole3 m c t _ _).trans (dW1_host m c e k j)
  db1 e j := (whole4 m c t _ _).trans (db1_host m c e j)

/-- The blocks of the later layers hold the weights. -/
theorem holds_branch (t : Fin cfg0.N) : HoldsBranch (iblk m c 5 t) (iblk m c 6 t) (iblk m c 7 t) (iblk m c 8 t)
    (iblk m c 9 t) (iblk m c 10 t) (iblk m c 11 t) (iblk m c 12 t) (given m c) where
  cW2 k j := (whole5 m c t _ _).trans (cW2_host m c k j)
  cb2 j := (whole6 m c t _ _).trans (cb2_host m c j)
  cW3 k j := (whole7 m c t _ _).trans (cW3_host m c k j)
  cb3 j := (whole8 m c t _ _).trans (cb3_host m c j)
  dW2 e k j := (whole9 m c t _ _ _).trans (dW2_host m c e k j)
  db2 e j := (whole10 m c t _ _).trans (congrFun (V_kept m c main_arg13 (by decide)) _)
  dW3 e k j := (whole11 m c t _ _).trans (dW3_host m c e k j)
  db3 e j := (whole12 m c t _ _).trans (db3_host m c e j)

/-- The blocks of the head and of the embeddings hold the weights. -/
theorem holds_head (t : Fin cfg0.N) : HoldsHead (iblk m c 13 t) (iblk m c 14 t) (iblk m c 15 t) (iblk m c 16 t)
    (iblk m c 17 t) (iblk m c 18 t) (iblk m c 19 t) (iblk m c 20 t) (iblk m c 21 t) (given m c) where
  fW1 k j := (whole13 m c t _ _).trans (fW1_host m c k j)
  fb1 j := (whole14 m c t _ _).trans (fb1_host m c j)
  fW2 k j := (whole15 m c t _ _).trans (fW2_host m c k j)
  fb2 j := (whole16 m c t _ _).trans (fb2_host m c j)
  emb e k := (whole17 m c t _ _).trans (emb_host m c e k)
  aW1 k j := (whole18 m c t _ _).trans (aW1_host m c k j)
  ab1 j := (whole19 m c t _ _).trans (ab1_host m c j)
  aW2 k j := (whole20 m c t _ _).trans (aW2_host m c k j)
  ab2 j := (whole21 m c t _ _).trans (ab2_host m c j)

end Cert.KernelIdeal.Row
-- ==== Proof.KernelValue.lean ====
module

public import proofs.«01_k».proof.Proof.KernelBlocks

@[expose] public section

set_option maxRecDepth 16384

noncomputable section

open Idealize.ShloMosaic Idealize.ShloMosaic.TcCoe Idealize.SL.Sem Idealize.ShloMosaic.Pipeline

namespace Cert.KernelIdeal.Row

open Cert.KernelIdeal Cert.KernelIdeal.Gen Cert.KernelIdeal.Body Cert.Score

/-! What the array that the kernel writes holds at the end. -/

variable (m : (ℓ : Loc nD τ sig) → Buf (Elt Ideal) ℓ) (c : Dev nD)

/-- The scores of all rows, row `r` being scored for domain `D r`. -/
def scores (D : Fin 16384 → Fin 4) : FVec Ideal S16384x1 .f32 := fun i =>
  score (given m c) (fun k => m ((c : Thread nD τ).loc main_arg0) (ix2 (i 0) k)) (D (i 0))

/-- At a grid point the body leaves the score of each of the point's rows. -/
theorem point_score (D : Fin 16384 → Fin 4)
    (hD : ∀ r, m ((c : Thread nD τ).loc main_arg1) (ix1 r) = BitVec.ofNat 32 (D r).val)
    (t : Fin cfg0.N) (r : Fin 2048) (e : Fin 1) :
    (dats m 0 c).after 22 t (ix2 r e) = scores m c D (ix2 (row t r) e) := by
  rw [after0_22]
  exact score_at _ _ _ _ _ _ _ _ _ _ _ _ _ _ _ _ _ _ _ _ _ _ (given m c) (holds_first m c t) (holds_branch m c t)
    (holds_head m c t) r (D (row t r)) _ (fun k => (ids_block m c t r k).trans (hD _)) (rows_block m c t r) e

/-- At the end the array that the call writes holds every row's score. -/
theorem final (D : Fin 16384 → Fin 4)
    (hD : ∀ r, m ((c : Thread nD τ).loc main_arg1) (ix1 r) = BitVec.ofNat 32 (D r).val) :
    (dats m 0 c).arrAt 22 cfg0.N = scores m c D := by
  refine (dats m 0 c).arrAt_eq_of_covers 22 _ (by decide +kernel) fun t hf y => ?_
  blk_simp
  rw [ValueIdx.eq_ix2 (n0 := 2048) (n1 := 1) y]
  refine (point_score m c D hD t _ _).trans (congrArg (scores m c D) ?_)
  unfold row
  blk_ext [moves t]

end Cert.KernelIdeal.Row
-- ==== Proof.Take.lean ====
module

public import Idealize.ShloMosaic.Lib.Claim
public import Idealize.ShloMosaic.Lib.ValueIdx
public import Idealize.ShloMosaic.Lib.Pointwise

/-!
Two ways an array is read at rows named by an integer array: whole rows of a matrix, and, for every row of a
rank-three array, one of its planes. Both read the index signed and hold it inside the array.
-/

@[expose] public section

set_option maxRecDepth 16384

noncomputable section

open Idealize.ShloMosaic

namespace Cert.Take

variable {α : Type}

/-- The dimension numbers of reading whole rows of an `N` by `C` matrix. -/
abbrev rowDims (N C B : Nat)
    (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

/-- Row `b` of the result is the row of the operand that the index names. -/
theorem row_at {N C B w : Nat} (hN : 0 < N)
    (wf : GatherDims.WF ⟨2, ![N, C]⟩ ⟨2, ![B, 1]⟩ ⟨2, ![B, C]⟩ [1] [0] [] [0] [] 1 ![1, C])
    (x : (⟨2, ![N, C]⟩ : Shape).Idx → α) (idx : IVec ⟨2, ![B, 1]⟩ w) (b : Fin B) (k : Fin C) :
    Host.gather (rowDims N C B wf) x idx (ix2 b k)
      = x (ix2 ⟨min (idx (ix2 b 0)).toInt.toNat (N - 1), by omega⟩ k) := by
  unfold Host.gather
  congr 1
  funext a
  refine Fin.ext ?_
  show (rowDims N C B wf).start (ix2 b k) idx a + (rowDims N C B wf).batchCoord (ix2 b k) a
      + (rowDims N C B wf).offCoord (ix2 b k) a = _
  rw [GatherDims.batchCoord_eq_zero _ _ _ (fun h => by simp at h), Nat.add_zero]
  match a with
  | ⟨0, _⟩ =>
    rw [GatherDims.offCoord_eq_zero _ _ _ (fun h => ((GatherDims.mem_sKept _ _).mp h).1 (List.mem_singleton.mpr rfl)),
      Nat.add_zero]
    unfold GatherDims.start
    refine (dif_pos (List.mem_singleton.mpr rfl)).trans ?_
    have hs : (rowDims N C B wf).siIdx (ix2 b k) ⟨List.idxOf (0 : Fin 2) (rowDims N C B wf).startIndexMap,
        List.idxOf_lt_length_iff.2 (List.mem_singleton.mpr rfl)⟩ = ix2 b 0 := by
      funext c
      refine Fin.ext ?_
      match c with
      | ⟨0, _⟩ => rfl
      | ⟨1, _⟩ => rfl
    exact congrArg (fun q => min (idx q).toInt.toNat (N - 1)) hs
  | ⟨1, _⟩ =>
    unfold GatherDims.start
    rw [dif_neg (fun h => by simp at h), Nat.zero_add]
    rfl

/-- The dimension numbers of reading one plane of every row of a `B` by `N` by `C` array. -/
abbrev planeDims (B N C : Nat)
    (wf : GatherDims.WF ⟨3, ![B, N, C]⟩ ⟨3, ![B, 1, 1]⟩ ⟨3, ![B, 1, C]⟩ [2] [1] [0] [1] [0] 2 ![1, 1, C]) :
    GatherDims ⟨3, ![B, N, C]⟩ ⟨3, ![B, 1, 1]⟩ ⟨3, ![B, 1, C]⟩ where
  offsetDims := [2]
  collapsedSliceDims := [1]
  operandBatchingDims := [0]
  startIndicesBatchingDims := [0]
  startIndexMap := [1]
  indexVectorDim := 2
  sliceSizes := ![1, 1, C]
  wf := wf

/-- Row `b` of the result is, in row `b` of the operand, the plane that the index names. -/
theorem plane_at {B N C w : Nat} (hN : 0 < N)
    (wf : GatherDims.WF ⟨3, ![B, N, C]⟩ ⟨3, ![B, 1, 1]⟩ ⟨3, ![B, 1, C]⟩ [2] [1] [0] [1] [0] 2 ![1, 1, C])
    (x : (⟨3, ![B, N, C]⟩ : Shape).Idx → α) (idx : IVec ⟨3, ![B, 1, 1]⟩ w) (b : Fin B) (k : Fin C) :
    Host.gather (planeDims B N C wf) x idx (ix3 b 0 k)
      = x (ix3 b ⟨min (idx (ix3 b 0 0)).toInt.toNat (N - 1), by omega⟩ k) := by
  unfold Host.gather
  congr 1
  funext a
  refine Fin.ext ?_
  show (planeDims B N C wf).start (ix3 b 0 k) idx a + (planeDims B N C wf).batchCoord (ix3 b 0 k) a
      + (planeDims B N C wf).offCoord (ix3 b 0 k) a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    unfold GatherDims.batchCoord
    refine (dif_pos (List.mem_singleton.mpr rfl)).trans ?_
    rfl
  | ⟨1, _⟩ =>
    rw [GatherDims.batchCoord_eq_zero _ _ _ (fun h => by simp at h),
      GatherDims.offCoord_eq_zero _ _ _ (fun h => ((GatherDims.mem_sKept _ _).mp h).1 (List.mem_singleton.mpr rfl)),
      Nat.add_zero]
    unfold GatherDims.start
    refine (dif_pos (List.mem_singleton.mpr rfl)).trans ?_
    have hs : (planeDims B N C wf).siIdx (ix3 b 0 k) ⟨List.idxOf (1 : Fin 3) (planeDims B N C wf).startIndexMap,
        List.idxOf_lt_length_iff.2 (List.mem_singleton.mpr rfl)⟩ = ix3 b 0 0 := by
      funext c
      refine Fin.ext ?_
      match c with
      | ⟨0, _⟩ => rfl
      | ⟨1, _⟩ => rfl
      | ⟨2, _⟩ => rfl
    exact congrArg (fun q => min (idx q).toInt.toNat (N - 1)) hs
  | ⟨2, _⟩ =>
    rw [GatherDims.batchCoord_eq_zero _ _ _ (fun h => by simp at h)]
    unfold GatherDims.start
    rw [dif_neg (fun h => by simp at h), Nat.zero_add]
    rfl

/-- A domain's number, below four, read back from its word. -/
theorem word_clamp (d : Fin 4) : min (BitVec.ofNat 32 d.val).toInt.toNat (4 - 1) = d.val := by
  revert d; decide

/-- Read at a domain's number, row `b` of the result is the row of that domain. -/
theorem row_pick {C B : Nat}
    (wf : GatherDims.WF ⟨2, ![4, C]⟩ ⟨2, ![B, 1]⟩ ⟨2, ![B, C]⟩ [1] [0] [] [0] [] 1 ![1, C])
    (x : (⟨2, ![4, C]⟩ : Shape).Idx → α) (idx : IVec ⟨2, ![B, 1]⟩ 32) (b : Fin B) (k : Fin C) (d : Fin 4)
    (hi : idx (ix2 b 0) = BitVec.ofNat 32 d.val) :
    Host.gather (rowDims 4 C B wf) x idx (ix2 b k) = x (ix2 d k) := by
  refine (row_at (by decide) wf x idx b k).trans (congrArg (fun q => x (ix2 q k)) (Fin.ext ?_))
  exact (congrArg (fun q : BitVec 32 => min q.toInt.toNat (4 - 1)) hi).trans (word_clamp d)

/-- Read at a domain's number, row `b` of the result is that row's plane of that domain. -/
theorem plane_pick {B C : Nat}
    (wf : GatherDims.WF ⟨3, ![B, 4, C]⟩ ⟨3, ![B, 1, 1]⟩ ⟨3, ![B, 1, C]⟩ [2] [1] [0] [1] [0] 2 ![1, 1, C])
    (x : (⟨3, ![B, 4, C]⟩ : Shape).Idx → α) (idx : IVec ⟨3, ![B, 1, 1]⟩ 32) (b : Fin B) (k : Fin C) (d : Fin 4)
    (hi : idx (ix3 b 0 0) = BitVec.ofNat 32 d.val) :
    Host.gather (planeDims B 4 C wf) x idx (ix3 b 0 k) = x (ix3 b d k) := by
  refine (plane_at (by decide) wf x idx b k).trans (congrArg (fun q => x (ix3 b q k)) (Fin.ext ?_))
  exact (congrArg (fun q : BitVec 32 => min q.toInt.toNat (4 - 1)) hi).trans (word_clamp d)

/-- The wrap of a negative index leaves a domain's number alone. -/
theorem word_wrap (d : Fin 4) (e : BitVec 32) :
    Scalar.select (IntOp.cmpi .slt (BitVec.ofNat 32 d.val) 0#32) e (BitVec.ofNat 32 d.val) = BitVec.ofNat 32 d.val := by
  have h : IntOp.cmpi .slt (BitVec.ofNat 32 d.val) 0#32 = 0#1 := by revert d; decide
  rw [h]
  rfl

/-- A domain's number lies between zero and three. -/
theorem word_inside (d : Fin 4) :
    IntOp.andi (IntOp.cmpi .sge (BitVec.ofNat 32 d.val) 0#32) (IntOp.cmpi .sle (BitVec.ofNat 32 d.val) 3#32) = 1#1 := by
  revert d; decide

/-- The conjunction of ones, from one, is one. -/
theorem and_ones {s t u : Shape} {axes : List (Fin s.rank)} (x : IVec s 1) (v : IVec u 1) (h : s.ReducesTo axes t)
    (hu : 0 < u.numel) (hx : ∀ i, x i = 1#1) (hv : ∀ i, v i = 1#1) (j : t.Idx) :
    Host.reduce IntOp.andi x v h hu j = 1#1 := by
  unfold Host.reduce
  rw [hv]
  generalize (List.finRange s.numel).filter _ = l
  induction l with
  | nil => rfl
  | cons a l ih =>
    rw [List.foldl_cons, hx]
    exact ih

end Cert.Take
-- ==== Proof.RefNorm.lean ====
module

public import proofs.«01_k».proof.Proof.Gen.ReferenceIdeal.Read
public import proofs.«01_k».proof.Proof.Spec
public import proofs.«01_k».proof.Proof.Take

/-!
The reference's rows, first part: the domain's number as each use of it reads it, and the normalised row.
-/

@[expose] public section

set_option maxRecDepth 16384

noncomputable section

open Idealize.ShloMosaic Idealize.ShloMosaic.TcCoe Idealize.SL.Sem

namespace Cert.ReferenceIdeal.Row

open Cert.ReferenceIdeal Cert.ReferenceIdeal.Gen Cert.ReferenceIdeal.Read Cert.Score

variable (x0 : FVec Ideal S16384x1024 .f32) (x1 : IVec S16384 32) (x2 x3 : FVec Ideal S4x1024 .f32)
  (r : Fin 16384) (d : Fin 4)

/-- The row index of the first lookup is the domain's number. -/
theorem id_v23 (hid : x1 (ix1 r) = BitVec.ofNat 32 d.val) (e : Fin 1) :
    val_main_v23 (F := Ideal) x1 (ix2 r e) = BitVec.ofNat 32 d.val := by
  pointwise [val_main_v23, val_main_v22, val_main_v19, val_main_v18, val_main_c]
  rw [hid]
  exact Take.word_wrap d _

/-- The scale that a row of domain `d` gets is the scale's row `d`. -/
theorem scale_at (hid : x1 (ix1 r) = BitVec.ofNat 32 d.val) (k : Fin 1024) :
    val_main_v24 (F := Ideal) x1 x2 (ix2 r k) = x2 (ix2 d k) := by
  unfold val_main_v24
  exact Take.row_pick _ _ _ r k d (id_v23 x1 r d hid 0)

/-- The row index of the second lookup is the domain's number. -/
theorem id_v31 (hid : x1 (ix1 r) = BitVec.ofNat 32 d.val) (e : Fin 1) :
    val_main_v31 (F := Ideal) x1 (ix2 r e) = BitVec.ofNat 32 d.val := by
  pointwise [val_main_v31, val_main_v30, val_main_v27, val_main_v26, val_main_c_5]
  rw [hid]
  exact Take.word_wrap d _

/-- The shift that a row of domain `d` gets is the shift's row `d`. -/
theorem shift_at (hid : x1 (ix1 r) = BitVec.ofNat 32 d.val) (k : Fin 1024) :
    val_main_v32 (F := Ideal) x1 x3 (ix2 r k) = x3 (ix2 d k) := by
  unfold val_main_v32
  exact Take.row_pick _ _ _ r k d (id_v31 x1 r d hid 0)

/-- The row index of the embedding's lookup is the domain's number. -/
theorem id_v83 (hid : x1 (ix1 r) = BitVec.ofNat 32 d.val) (e : Fin 1) :
    val_main_v83 (F := Ideal) x1 (ix2 r e) = BitVec.ofNat 32 d.val := by
  pointwise [val_main_v83, val_main_v82, val_main_v79, val_main_v78, val_main_c_7]
  rw [hid]
  exact Take.word_wrap d _

/-- The embedding that a row of domain `d` gets is the embedding's row `d`. -/
theorem embed_at (x20 : FVec Ideal S4x16 .f32) (hid : x1 (ix1 r) = BitVec.ofNat 32 d.val) (k : Fin 16) :
    val_main_v84 (F := Ideal) x1 x20 (ix2 r k) = x20 (ix2 d k) := by
  unfold val_main_v84
  exact Take.row_pick _ _ _ r k d (id_v83 x1 r d hid 0)

/-- The normalised row. -/
theorem unit_at (k : Fin 1024) :
    val_main_v17 (F := Ideal) x0 (ix2 r k)
      = Ideal.div (cen (fun k => x0 (ix2 r k)) k) (Ideal.sqrt (var (fun k => x0 (ix2 r k)) + eps)) := by
  pointwise [val_main_v17, val_main_v16, val_main_v15, val_main_v14, val_main_v13, val_main_v12, val_main_v11,
    val_main_v10, val_main_v9, val_main_v8, val_main_v7, val_main_v6, val_main_v5, val_main_v4, val_main_v3,
    val_main_v2, val_main_v1, val_main_v0, val_main_cst, val_main_cst_0, val_main_cst_1, val_main_cst_2, val_main_cst_3]
  rfl

/-- The row normalised with its domain's scale and shift. -/
theorem normed_at (hid : x1 (ix1 r) = BitVec.ofNat 32 d.val) (k : Fin 1024) :
    val_main_v33 (F := Ideal) x0 x1 x2 x3 (ix2 r k)
      = normed (fun k => x0 (ix2 r k)) (fun k => x2 (ix2 d k)) (fun k => x3 (ix2 d k)) k := by
  rw [val_main_v33_apply, val_main_v25_apply, unit_at, scale_at x1 x2 r d hid, shift_at x1 x3 r d hid]
  rfl

end Cert.ReferenceIdeal.Row
-- ==== Proof.RefLayers.lean ====
module

public import proofs.«01_k».proof.Proof.RefNorm

/-!
The reference's rows, second part: the shared layers, and every domain's own layers on the row.
-/

@[expose] public section

set_option maxRecDepth 16384

noncomputable section

open Idealize.ShloMosaic Idealize.ShloMosaic.TcCoe Idealize.SL.Sem

namespace Cert.ReferenceIdeal.Row

open Cert.ReferenceIdeal Cert.ReferenceIdeal.Gen Cert.ReferenceIdeal.Read Cert.Score

variable (x0 : FVec Ideal S16384x1024 .f32) (x1 : IVec S16384 32) (x2 x3 : FVec Ideal S4x1024 .f32)
  (x4 : FVec Ideal S1024x512 .f32) (x5 : FVec Ideal S512 .f32) (x6 : FVec Ideal S512x256 .f32)
  (x7 : FVec Ideal S256 .f32) (x8 : FVec Ideal S256x128 .f32) (x9 : FVec Ideal S128 .f32)
  (x10 : FVec Ideal S4x1024x512 .f32) (x11 : FVec Ideal S4x512 .f32) (x12 : FVec Ideal S4x512x256 .f32)
  (x13 : FVec Ideal S4x256 .f32) (x14 : FVec Ideal S4x256x128 .f32) (x15 : FVec Ideal S4x128 .f32)
  (r : Fin 16384) (h : Fin 1024 → EReal)
  (hh : ∀ k, val_main_v33 (F := Ideal) x0 x1 x2 x3 (ix2 r k) = h k)

include hh

/-- The first shared layer. -/
theorem shared1 (j : Fin 512) :
    val_main_v38 (F := Ideal) x0 x1 x2 x3 x4 x5 (ix2 r j)
      = layer h (fun k j => x4 (ix2 k j)) (fun j => x5 (ix1 j)) j := by
  pointwise [val_main_v38, val_main_v37, val_main_v36, val_main_v35, val_main_v34, val_main_call0_v0, val_main_call0_cst]
  simp only [hh]
  rfl

/-- The second shared layer. -/
theorem shared2 (j : Fin 256) :
    val_main_v43 (F := Ideal) x0 x1 x2 x3 x4 x5 x6 x7 (ix2 r j)
      = layer (layer h (fun k j => x4 (ix2 k j)) (fun j => x5 (ix1 j))) (fun k j => x6 (ix2 k j))
          (fun j => x7 (ix1 j)) j := by
  pointwise [val_main_v43, val_main_v42, val_main_v41, val_main_v40, val_main_v39, val_main_call1_v0, val_main_call1_cst]
  simp only [shared1 x0 x1 x2 x3 x4 x5 r h hh]
  rfl

/-- The shared features of the row. -/
theorem shared3 (j : Fin 128) :
    val_main_v47 (F := Ideal) x0 x1 x2 x3 x4 x5 x6 x7 x8 x9 (ix2 r j)
      = net h (fun k j => x4 (ix2 k j)) (fun j => x5 (ix1 j)) (fun k j => x6 (ix2 k j)) (fun j => x7 (ix1 j))
          (fun k j => x8 (ix2 k j)) (fun j => x9 (ix1 j)) j := by
  pointwise [val_main_v47, val_main_v46, val_main_v45, val_main_v44]
  simp only [shared2 x0 x1 x2 x3 x4 x5 x6 x7 r h hh]
  rfl

/-- The first layer of domain `e`. -/
theorem own1 (e : Fin 4) (j : Fin 512) :
    val_main_v52 (F := Ideal) x0 x1 x2 x3 x10 x11 (ix3 r e j)
      = layer h (fun k j => x10 (ix3 e k j)) (fun j => x11 (ix2 e j)) j := by
  pointwise [val_main_v52, val_main_v51, val_main_v50, val_main_v49, val_main_v48, val_main_call2_v0, val_main_call2_cst]
  simp only [hh]
  rfl

/-- The second layer of domain `e`. -/
theorem own2 (e : Fin 4) (j : Fin 256) :
    val_main_v58 (F := Ideal) x0 x1 x2 x3 x10 x11 x12 x13 (ix3 r e j)
      = layer (layer h (fun k j => x10 (ix3 e k j)) (fun j => x11 (ix2 e j))) (fun k j => x12 (ix3 e k j))
          (fun j => x13 (ix2 e j)) j := by
  pointwise [val_main_v58, val_main_v57, val_main_v56, val_main_v55, val_main_v54, val_main_v53, val_main_call3_v0,
    val_main_call3_cst]
  simp only [own1 x0 x1 x2 x3 x10 x11 r h hh, mul_comm (x12 _)]
  rfl

/-- The features of the row by the layers of domain `e`. -/
theorem own3 (e : Fin 4) (j : Fin 128) :
    val_main_v63 (F := Ideal) x0 x1 x2 x3 x10 x11 x12 x13 x14 x15 (ix3 r e j)
      = net h (fun k j => x10 (ix3 e k j)) (fun j => x11 (ix2 e j)) (fun k j => x12 (ix3 e k j))
          (fun j => x13 (ix2 e j)) (fun k j => x14 (ix3 e k j)) (fun j => x15 (ix2 e j)) j := by
  pointwise [val_main_v63, val_main_v62, val_main_v61, val_main_v60, val_main_v59]
  simp only [own2 x0 x1 x2 x3 x10 x11 x12 x13 r h hh, mul_comm (x14 _)]
  rfl

end Cert.ReferenceIdeal.Row
-- ==== Proof.RefRow.lean ====
module

public import proofs.«01_k».proof.Proof.RefLayers

/-!
The reference's rows, third part: the domain's features picked out, the head, the embedding's part and the score.
-/

@[expose] public section

set_option maxRecDepth 16384

noncomputable section

open Idealize.ShloMosaic Idealize.ShloMosaic.TcCoe Idealize.SL.Sem

namespace Cert.ReferenceIdeal.Row

open Cert.ReferenceIdeal Cert.ReferenceIdeal.Gen Cert.ReferenceIdeal.Read Cert.Score

variable (x1 : IVec S16384 32)

/-- The plane index that the pick reads is the domain's number. -/
theorem id_pick (r : Fin 16384) (d : Fin 4) (hid : x1 (ix1 r) = BitVec.ofNat 32 d.val) (e e' : Fin 1) :
    val_main_call4_v4 (F := Ideal) x1 (ix3 r e e') = BitVec.ofNat 32 d.val := by
  pointwise [val_main_call4_v4, val_main_call4_v1, val_main_call4_v0, val_main_call4_c, val_main_v64]
  rw [hid]
  exact Take.word_wrap d _

/-- Every index that the pick reads is found inside the array. -/
theorem inside_pick (hid : ∀ r, ∃ d : Fin 4, x1 (ix1 r) = BitVec.ofNat 32 d.val) (i : S16384x1x1.Idx) :
    val_main_call4_v10 (F := Ideal) x1 i = 1#1 := by
  idx_vars i
  obtain ⟨d, hd⟩ := hid i0
  pointwise [val_main_call4_v10, val_main_call4_v9, val_main_call4_v8, val_main_call4_v7, val_main_call4_v6,
    val_main_call4_v5, val_main_call4_c_1, val_main_call4_c_2]
  rw [id_pick x1 i0 d hd]
  exact Take.word_inside d

/-- So the pick's mask is true everywhere. -/
theorem mask_pick (hid : ∀ r, ∃ d : Fin 4, x1 (ix1 r) = BitVec.ofNat 32 d.val) (i : S16384x1.Idx) :
    val_main_call4_v11 (F := Ideal) x1 i = 1#1 := by
  unfold val_main_call4_v11
  exact Take.and_ones _ _ _ _ (inside_pick x1 hid) (fun _ => rfl) i

variable (x0 : FVec Ideal S16384x1024 .f32) (x2 x3 : FVec Ideal S4x1024 .f32)
  (x4 : FVec Ideal S1024x512 .f32) (x5 : FVec Ideal S512 .f32) (x6 : FVec Ideal S512x256 .f32)
  (x7 : FVec Ideal S256 .f32) (x8 : FVec Ideal S256x128 .f32) (x9 : FVec Ideal S128 .f32)
  (x10 : FVec Ideal S4x1024x512 .f32) (x11 : FVec Ideal S4x512 .f32) (x12 : FVec Ideal S4x512x256 .f32)
  (x13 : FVec Ideal S4x256 .f32) (x14 : FVec Ideal S4x256x128 .f32) (x15 : FVec Ideal S4x128 .f32)
  (x16 : FVec Ideal S128x64 .f32) (x17 : FVec Ideal S64 .f32) (x18 : FVec Ideal S64x1 .f32)
  (x19 : FVec Ideal S1 .f32) (x20 : FVec Ideal S4x16 .f32) (x21 : FVec Ideal S16x32 .f32)
  (x22 : FVec Ideal S32 .f32) (x23 : FVec Ideal S32x1 .f32) (x24 : FVec Ideal S1 .f32)

/-- The features picked for a row of domain `d` are that domain's. -/
theorem picked (hid : ∀ r, ∃ d : Fin 4, x1 (ix1 r) = BitVec.ofNat 32 d.val) (r : Fin 16384) (d : Fin 4)
    (hd : x1 (ix1 r) = BitVec.ofNat 32 d.val) (j : Fin 128) :
    val_main_v66 (F := Ideal) x0 x1 x2 x3 x10 x11 x12 x13 x14 x15 (ix2 r j)
      = val_main_v63 (F := Ideal) x0 x1 x2 x3 x10 x11 x12 x13 x14 x15 (ix3 r d j) := by
  pointwise [val_main_v66, val_main_v65, val_main_call4_v13]
  rw [mask_pick x1 hid]
  refine Eq.trans (b := val_main_call4_v12 (F := Ideal) x0 x1 x2 x3 x10 x11 x12 x13 x14 x15 (ix3 r 0 j)) ?_ ?_
  · rfl
  · unfold val_main_call4_v12
    exact Take.plane_pick _ _ _ r j d (id_pick x1 r d hd 0 0)

/-- The shared features times the squashed features of the row's own domain. -/
theorem gated (hid : ∀ r, ∃ d : Fin 4, x1 (ix1 r) = BitVec.ofNat 32 d.val) (r : Fin 16384) (d : Fin 4)
    (hd : x1 (ix1 r) = BitVec.ofNat 32 d.val) (c s : Fin 128 → EReal)
    (hc : ∀ j, val_main_v47 (F := Ideal) x0 x1 x2 x3 x4 x5 x6 x7 x8 x9 (ix2 r j) = c j)
    (hs : ∀ j, val_main_v63 (F := Ideal) x0 x1 x2 x3 x10 x11 x12 x13 x14 x15 (ix3 r d j) = s j) (j : Fin 128) :
    val_main_v68 (F := Ideal) x0 x1 x2 x3 x4 x5 x6 x7 x8 x9 x10 x11 x12 x13 x14 x15 (ix2 r j) = c j * Ideal.tanh (s j) := by
  rw [val_main_v68_apply, val_main_v67_apply, picked x1 x0 x2 x3 x10 x11 x12 x13 x14 x15 hid r d hd, hc, hs]
  rfl

/-- The head's value on a row of domain `d`. -/
theorem head_at (hid : ∀ r, ∃ d : Fin 4, x1 (ix1 r) = BitVec.ofNat 32 d.val) (r : Fin 16384) (d : Fin 4)
    (hd : x1 (ix1 r) = BitVec.ofNat 32 d.val) (c s : Fin 128 → EReal)
    (hc : ∀ j, val_main_v47 (F := Ideal) x0 x1 x2 x3 x4 x5 x6 x7 x8 x9 (ix2 r j) = c j)
    (hs : ∀ j, val_main_v63 (F := Ideal) x0 x1 x2 x3 x10 x11 x12 x13 x14 x15 (ix3 r d j) = s j) (e : Fin 1) :
    val_main_v77 (F := Ideal) x0 x1 x2 x3 x4 x5 x6 x7 x8 x9 x10 x11 x12 x13 x14 x15 x16 x17 x18 x19 (ix2 r e)
      = head c s (fun k j => x16 (ix2 k j)) (fun j => x17 (ix1 j)) (fun k j => x18 (ix2 k j)) (fun j => x19 (ix1 j)) := by
  pointwise [val_main_v77, val_main_v76, val_main_v75, val_main_v74, val_main_v73, val_main_v72, val_main_v71,
    val_main_v70, val_main_v69, val_main_call5_v0, val_main_call5_cst]
  simp only [gated x1 x0 x2 x3 x4 x5 x6 x7 x8 x9 x10 x11 x12 x13 x14 x15 hid r d hd c s hc hs]
  obtain rfl : e = 0 := Subsingleton.elim _ _
  rfl

/-- The embedding's value on a row of domain `d`. -/
theorem aux_at (r : Fin 16384) (d : Fin 4) (hd : x1 (ix1 r) = BitVec.ofNat 32 d.val) (e : Fin 1) :
    val_main_v93 (F := Ideal) x1 x20 x21 x22 x23 x24 (ix2 r e)
      = aux (fun k => x20 (ix2 d k)) (fun k j => x21 (ix2 k j)) (fun j => x22 (ix1 j)) (fun k j => x23 (ix2 k j))
          (fun j => x24 (ix1 j)) := by
  pointwise [val_main_v93, val_main_v92, val_main_v91, val_main_v90, val_main_v89, val_main_v88, val_main_v87,
    val_main_v86, val_main_v85, val_main_call6_v0, val_main_call6_cst]
  simp only [embed_at x1 r d x20 hd]
  obtain rfl : e = 0 := Subsingleton.elim _ _
  rfl

/-- The reference's result on a row of domain `d` is that row's score. -/
theorem score_at (hid : ∀ r, ∃ d : Fin 4, x1 (ix1 r) = BitVec.ofNat 32 d.val) (r : Fin 16384) (d : Fin 4)
    (hd : x1 (ix1 r) = BitVec.ofNat 32 d.val) (e : Fin 1) :
    val_main_v100 (F := Ideal) x0 x1 x2 x3 x4 x5 x6 x7 x8 x9 x10 x11 x12 x13 x14 x15 x16 x17 x18 x19 x20 x21 x22 x23 x24
        (ix2 r e)
      = score (weights x2 x3 x4 x5 x6 x7 x8 x9 x10 x11 x12 x13 x14 x15 x16 x17 x18 x19 x20 x21 x22 x23 x24)
          (fun k => x0 (ix2 r k)) d := by
  have hn := normed_at x0 x1 x2 x3 r d hd
  have hc := shared3 x0 x1 x2 x3 x4 x5 x6 x7 x8 x9 r _ hn
  have hs := own3 x0 x1 x2 x3 x10 x11 x12 x13 x14 x15 r _ hn d
  pointwise [val_main_v100, val_main_v99, val_main_v98, val_main_v97, val_main_v96, val_main_v95, val_main_v94,
    val_main_cst_9, val_main_cst_10]
  rw [head_at x1 x0 x2 x3 x4 x5 x6 x7 x8 x9 x10 x11 x12 x13 x14 x15 x16 x17 x18 x19 hid r d hd _ _ hc hs,
    aux_at x1 x20 x21 x22 x23 x24 r d hd]
  rfl

end Cert.ReferenceIdeal.Row
-- ==== Proof.RefValue.lean ====
module

public import proofs.«01_k».proof.Proof.RefRow

@[expose] public section

noncomputable section

open Idealize.ShloMosaic Idealize.ShloMosaic.TcCoe Idealize.SL.Sem

namespace Cert.ReferenceIdeal.Row

open Cert.ReferenceIdeal Cert.ReferenceIdeal.Gen Cert.ReferenceIdeal.Read Cert.Score

variable (x0 : FVec Ideal S16384x1024 .f32) (x1 : IVec S16384 32) (x2 x3 : FVec Ideal S4x1024 .f32)
  (x4 : FVec Ideal S1024x512 .f32) (x5 : FVec Ideal S512 .f32) (x6 : FVec Ideal S512x256 .f32)
  (x7 : FVec Ideal S256 .f32) (x8 : FVec Ideal S256x128 .f32) (x9 : FVec Ideal S128 .f32)
  (x10 : FVec Ideal S4x1024x512 .f32) (x11 : FVec Ideal S4x512 .f32) (x12 : FVec Ideal S4x512x256 .f32)
  (x13 : FVec Ideal S4x256 .f32) (x14 : FVec Ideal S4x256x128 .f32) (x15 : FVec Ideal S4x128 .f32)
  (x16 : FVec Ideal S128x64 .f32) (x17 : FVec Ideal S64 .f32) (x18 : FVec Ideal S64x1 .f32)
  (x19 : FVec Ideal S1 .f32) (x20 : FVec Ideal S4x16 .f32) (x21 : FVec Ideal S16x32 .f32)
  (x22 : FVec Ideal S32 .f32) (x23 : FVec Ideal S32x1 .f32) (x24 : FVec Ideal S1 .f32)

/-- The reference's result, as an array: every row's score, row `r` being scored for domain `D r`. -/
theorem all_scores (D : Fin 16384 → Fin 4) (hD : ∀ r, x1 (ix1 r) = BitVec.ofNat 32 (D r).val) :
    val_main_v100 (F := Ideal) x0 x1 x2 x3 x4 x5 x6 x7 x8 x9 x10 x11 x12 x13 x14 x15 x16 x17 x18 x19 x20 x21 x22 x23 x24
      = fun i => score (weights x2 x3 x4 x5 x6 x7 x8 x9 x10 x11 x12 x13 x14 x15 x16 x17 x18 x19 x20 x21 x22 x23 x24)
          (fun k => x0 (ix2 (i 0) k)) (D (i 0)) := by
  funext i
  have hi : i = ix2 (i 0) (i 1) := ValueIdx.eq_ix2 (n0 := 16384) (n1 := 1) i
  refine (congrArg _ hi).trans ?_
  exact score_at x1 x0 x2 x3 x4 x5 x6 x7 x8 x9 x10 x11 x12 x13 x14 x15 x16 x17 x18 x19 x20 x21 x22 x23 x24 (fun r => ⟨D r, hD r⟩) (i 0) (D (i 0)) (hD _) (i 1)

end Cert.ReferenceIdeal.Row

end
-- ==== Proof.Domain.lean ====
module

public import proofs.«01_k».proof.Defs
public import proofs.«01_k».proof.Proof.Gen.Pre_ids_name_domains
public import Idealize.ShloMosaic.Lib.ValueIdx

@[expose] public section

noncomputable section

open Idealize.ShloMosaic Idealize.ShloMosaic.ValueIdx Idealize.SL.Sem

namespace Cert.Domain

/-- Two one-bit words whose conjunction is one are both one. -/
theorem both_one : ∀ a b : BitVec 1, IntOp.andi a b = 1#1 → a = 1#1 ∧ b = 1#1 := by decide

/-- The one-bit word of a truth value is one only for `true`. -/
theorem true_of_bit : ∀ p : Bool, BitVec.ofBool p = 1#1 → p = true := by decide

/-- A signed word from zero on and under four is the number of a domain. -/
theorem named (v : BitVec 32) (h : IntOp.andi (IntOp.cmpi .sge v 0#32) (IntOp.cmpi .slt v 4#32) = 1#1) :
    ∃ d : Fin 4, v = BitVec.ofNat 32 d.val := by
  obtain ⟨hl, hu⟩ := both_one _ _ h
  have hl' : (0#32).sle v = true := true_of_bit _ hl
  have hu' : v.slt 4#32 = true := true_of_bit _ hu
  rw [BitVec.sle_eq_decide, decide_eq_true_eq] at hl'
  rw [BitVec.slt_eq_decide, decide_eq_true_eq] at hu'
  have h0 : (0#32).toInt = 0 := by decide
  have h4 : (4#32).toInt = 4 := by decide
  rw [h0] at hl'
  rw [h4] at hu'
  rw [BitVec.toInt_eq_toNat_cond] at hl' hu'
  have hv : v.toNat < 4 := by split at hu' <;> omega
  exact ⟨⟨v.toNat, hv⟩, BitVec.eq_of_toNat_eq (by simp)⟩

/-- Under the precondition every row's id is the number of a domain. -/
theorem domains (m : (ℓ : Loc Cert.KernelIdeal.nD Cert.KernelIdeal.τ Cert.KernelIdeal.sig) → Buf (Elt Ideal) ℓ)
    (h : Cert.Pre_KernelIdeal_ids_name_domains m) (c : Dev Cert.KernelIdeal.nD) (r : Fin 16384) :
    ∃ d : Fin 4, m ((c.tc : Thread Cert.KernelIdeal.nD Cert.KernelIdeal.τ).loc Cert.KernelIdeal.main_arg1) (ix1 r)
      = BitVec.ofNat 32 d.val :=
  named _ (congrFun (h c) (ix1 r))

end Cert.Domain

end
-- ==== Proof.Equation.lean ====
module

public import proofs.«01_k».proof.Proof.KernelValue
public import proofs.«01_k».proof.Proof.RefValue
public import proofs.«01_k».proof.Proof.Domain
public import proofs.«01_k».proof.Proof.Gen.ReferenceIdeal.Run

@[expose] public section

noncomputable section

open Idealize.ShloMosaic Idealize.SL.Sem

namespace Cert.Equation

/-- Where the ids name domains, the kernel and the reference end with the same array: every row's score. -/
theorem algebraic [Cert.Pre_ids_name_domains.Facts] :
    Cert.algebraic_KernelIdeal_ReferenceIdeal_pre_ids_name_domains := by
  intro m g m' g' hpre hagree
  choose D hD using Cert.Domain.domains m hpre
  refine ⟨fun c => Cert.KernelIdeal.Row.scores m c (D c), ?_, ?_⟩
  · exact (θ_run _ _ _).mono
      (fun r h c => ⟨(h c).1.trans (Cert.KernelIdeal.Row.final m c (D c) (hD c)), (h c).2⟩)
      (Cert.KernelIdeal.Body.run_result m g)
  · refine (θ_run _ _ _).mono (fun r h c => ⟨(h c).1.trans ?_, (h c).2⟩) (Cert.ReferenceIdeal.Value.run m' g')
    refine (Cert.ReferenceIdeal.Read.val_main_v100_eq m' c).trans ?_
    obtain ⟨a0, a1, a2, a3, a4, a5, a6, a7, a8, a9, a10, a11, a12, a13, a14, a15, a16, a17, a18, a19, a20, a21, a22, a23, a24⟩ := hagree c
    rw [a0, a1, a2, a3, a4, a5, a6, a7, a8, a9, a10, a11, a12, a13, a14, a15, a16, a17, a18, a19, a20, a21, a22, a23, a24]
    exact Cert.ReferenceIdeal.Row.all_scores _ _ _ _ _ _ _ _ _ _ _ _ _ _ _ _ _ _ _ _ _ _ _ _ _ (D c) (hD c)

end Cert.Equation

end
-- ==== Proof.lean ====
/- The claims about the fused scoring kernel, assembled: the frames of the kernel, of the ideal kernel and of the ideal
   reference, the ideal kernel as the kernel over the extended reals, and the equation of kernel and reference.
   The mathematics is in the modules under Proof/: `Spec` says what one row's score is, `KernelValue` that the kernel's
   array holds the scores, `RefValue` that the reference's does, `Equation` puts the two together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_ids_name_domains
public import proofs.«01_k».proof.Proof.KernelFrame
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference leaves its arguments unchanged, and it has no semaphores. -/
theorem reference_frame : Cert.quiescent_ReferenceIdeal := fun m g _ =>
  (θ_run _ _ _).mono (fun r h => ⟨fun c => (h c).2, sem_eq_zero_of_no_sems (by decide) r.2⟩)
    (Cert.ReferenceIdeal.Value.run m g)

/-- The frames of the three programs, the ideal program as the kernel over the reals, and the equation of kernel and
    reference. -/
theorem claim : Cert.Claim := ⟨Cert.Kernel.Gen.facts, Cert.KernelIdeal.Gen.facts, Cert.ReferenceIdeal.Gen.facts, Cert.Pre_ids_name_domains.Gen.facts,
  fun m g _ => Cert.Kernel.Body.frame m g,
  fun m g _ => Cert.KernelIdeal.Body.frame m g,
  fun m g _ => Cert.KernelIdeal.Body.frame m g,
  reference_frame,
  fun m g _ => reference_frame m g trivial,
  trivial,
  Cert.Equation.algebraic⟩

end Cert.Proof

end
